-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite_scores [hPre_finite_scores : Cert.Pre_finite_scores.Facts] (m : (ℓ : Loc Cert.BandIdeal.nD Cert.BandIdeal.τ Cert.BandIdeal.sig) → Buf (Elt Ideal) ℓ) : Prop :=
  ∀ c : Dev Cert.BandIdeal.nD,
    (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite_scores [hPre_finite_scores : Cert.Pre_finite_scores.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite_scores.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_finite_scores [hBandIdeal : Cert.BandIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite_scores m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_finite_scores [hBandRefIdeal : Cert.BandRefIdeal.Facts] [hPre_finite_scores : Cert.Pre_finite_scores.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite_scores m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def preserves_Band_BandIdeal : Prop :=
  True

def algebraic_BandIdeal_BandRefIdeal_pre_finite_scores [hBandIdeal : Cert.BandIdeal.Facts] [hBandRefIdeal : Cert.BandRefIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite_scores m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v21)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v21) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v77) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v30) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v60)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v60) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v69) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v153)) (v1 : (c : Dev Cert.InprojIdeal.nD) → Buf (Elt Ideal) ((c.tc : Thread Cert.InprojIdeal.nD Cert.InprojIdeal.τ).loc Cert.InprojIdeal.main_v140)) (v2 : (c : Dev Cert.InprojIdeal.nD) → Buf (Elt Ideal) ((c.tc : Thread Cert.InprojIdeal.nD Cert.InprojIdeal.τ).loc Cert.InprojIdeal.main_v148)) (v3 : (c : Dev Cert.InprojIdeal.nD) → Buf (Elt Ideal) ((c.tc : Thread Cert.InprojIdeal.nD Cert.InprojIdeal.τ).loc Cert.InprojIdeal.main_v157)) (v4 : (c : Dev Cert.InprojIdeal.nD) → Buf (Elt Ideal) ((c.tc : Thread Cert.InprojIdeal.nD Cert.InprojIdeal.τ).loc Cert.InprojIdeal.main_v152)) (v5 : (c : Dev Cert.InprojIdeal.nD) → Buf (Elt Ideal) ((c.tc : Thread Cert.InprojIdeal.nD Cert.InprojIdeal.τ).loc Cert.InprojIdeal.main_v158)) (v6 : (c : Dev Cert.InprojIdeal.nD) → Buf (Elt Ideal) ((c.tc : Thread Cert.InprojIdeal.nD Cert.InprojIdeal.τ).loc Cert.InprojIdeal.main_v162)) (v7 : (c : Dev Cert.InprojIdeal.nD) → Buf (Elt Ideal) ((c.tc : Thread Cert.InprojIdeal.nD Cert.InprojIdeal.τ).loc Cert.InprojIdeal.main_v166)) (v8 : (c : Dev Cert.InprojIdeal.nD) → Buf (Elt Ideal) ((c.tc : Thread Cert.InprojIdeal.nD Cert.InprojIdeal.τ).loc Cert.InprojIdeal.main_v168)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v153) = v0 c
          ∧ r.2.mem ((c.tc : Thread Cert.InprojIdeal.nD Cert.InprojIdeal.τ).loc Cert.InprojIdeal.main_v140) = v1 c
          ∧ r.2.mem ((c.tc : Thread Cert.InprojIdeal.nD Cert.InprojIdeal.τ).loc Cert.InprojIdeal.main_v148) = v2 c
          ∧ r.2.mem ((c.tc : Thread Cert.InprojIdeal.nD Cert.InprojIdeal.τ).loc Cert.InprojIdeal.main_v157) = v3 c
          ∧ r.2.mem ((c.tc : Thread Cert.InprojIdeal.nD Cert.InprojIdeal.τ).loc Cert.InprojIdeal.main_v152) = v4 c
          ∧ r.2.mem ((c.tc : Thread Cert.InprojIdeal.nD Cert.InprojIdeal.τ).loc Cert.InprojIdeal.main_v158) = v5 c
          ∧ r.2.mem ((c.tc : Thread Cert.InprojIdeal.nD Cert.InprojIdeal.τ).loc Cert.InprojIdeal.main_v162) = v6 c
          ∧ r.2.mem ((c.tc : Thread Cert.InprojIdeal.nD Cert.InprojIdeal.τ).loc Cert.InprojIdeal.main_v166) = v7 c
          ∧ r.2.mem ((c.tc : Thread Cert.InprojIdeal.nD Cert.InprojIdeal.τ).loc Cert.InprojIdeal.main_v168) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v26) = v0 c
          ∧ r.2.mem ((c.tc : Thread Cert.InprojRefIdeal.nD Cert.InprojRefIdeal.τ).loc Cert.InprojRefIdeal.main_v14) = v1 c
          ∧ r.2.mem ((c.tc : Thread Cert.InprojRefIdeal.nD Cert.InprojRefIdeal.τ).loc Cert.InprojRefIdeal.main_v15) = v2 c
          ∧ r.2.mem ((c.tc : Thread Cert.InprojRefIdeal.nD Cert.InprojRefIdeal.τ).loc Cert.InprojRefIdeal.main_v16) = v3 c
          ∧ r.2.mem ((c.tc : Thread Cert.InprojRefIdeal.nD Cert.InprojRefIdeal.τ).loc Cert.InprojRefIdeal.main_v17) = v4 c
          ∧ r.2.mem ((c.tc : Thread Cert.InprojRefIdeal.nD Cert.InprojRefIdeal.τ).loc Cert.InprojRefIdeal.main_v27) = v5 c
          ∧ r.2.mem ((c.tc : Thread Cert.InprojRefIdeal.nD Cert.InprojRefIdeal.τ).loc Cert.InprojRefIdeal.main_v28) = v6 c
          ∧ r.2.mem ((c.tc : Thread Cert.InprojRefIdeal.nD Cert.InprojRefIdeal.τ).loc Cert.InprojRefIdeal.main_v29) = v7 c
          ∧ r.2.mem ((c.tc : Thread Cert.InprojRefIdeal.nD Cert.InprojRefIdeal.τ).loc Cert.InprojRefIdeal.main_v30) = v8 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def Claim : Prop :=
  ∃ (hBand : Cert.Band.Facts) (hBandIdeal : Cert.BandIdeal.Facts) (hBandRefIdeal : Cert.BandRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPre_finite_scores : Cert.Pre_finite_scores.Facts),
    quiescent_Band (hBand := hBand)
    ∧ quiescent_BandIdeal (hBandIdeal := hBandIdeal)
    ∧ quiescent_BandIdeal_pre_finite_scores (hBandIdeal := hBandIdeal) (hPre_finite_scores := hPre_finite_scores)
    ∧ quiescent_BandRefIdeal (hBandRefIdeal := hBandRefIdeal)
    ∧ quiescent_BandRefIdeal_pre_finite_scores (hBandRefIdeal := hBandRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ preserves_Band_BandIdeal
    ∧ algebraic_BandIdeal_BandRefIdeal_pre_finite_scores (hBandIdeal := hBandIdeal) (hBandRefIdeal := hBandRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
-- ==== Pre_finite_scores.lean ====
abbrev S8x2048x1536 : Shape := ⟨3, ![8, 2048, 1536]⟩
abbrev S8x257 : Shape := ⟨2, ![8, 257]⟩
abbrev S8x2048x1024 : Shape := ⟨3, ![8, 2048, 1024]⟩
abbrev S_ : Shape := ⟨0, ![]⟩

class Facts : Prop where
  slices_S8x2048x1536_S8x2048x1024_0_0_0 : S8x2048x1536.Slices ![0, 0, 0] S8x2048x1024
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S8x2048x1536 .f32) (main_arg1 : FVec F S8x257 .f32) : IVec S_ 1 :=
  let main_v0 : FVec F S8x2048x1024 .f32 := (extractStridedSlice S8x2048x1024 ![0, 0, 0] · slices_S8x2048x1536_S8x2048x1024_0_0_0) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x257 .f32 := Host.absf main_arg1
  let main_cst_0 : FVec F S_ .f32 := constant S_ .f32 0x7F800000#32
  let main_v6 : FVec F S8x257 .f32 := broadcastInDim S8x257 ![] bcast_S_S8x257 main_cst_0
  let main_v7 : IVec S8x257 1 := cmpf .olt main_v5 main_v6
  let main_c_1 : IVec S_ 1 := constantI S_ 1 1#1
  let main_v8 : IVec S_ 1 := (fun x v => Host.reduce IntOp.andi x v reducesTo_S8x257_S_d0_1 h_S_) main_v7 main_c_1
  let main_v9 : IVec S_ 1 := andi main_v4 main_v8
  main_v9
-- ==== Band.lean ====
abbrev S8x2048x1536 : Shape := ⟨3, ![8, 2048, 1536]⟩
abbrev S8x257 : Shape := ⟨2, ![8, 257]⟩
abbrev S640 : Shape := ⟨1, ![640]⟩
abbrev S8x2048x512 : Shape := ⟨3, ![8, 2048, 512]⟩
abbrev S8x2048x8x64 : Shape := ⟨4, ![8, 2048, 8, 64]⟩
abbrev S_ : Shape := ⟨0, ![]⟩
abbrev S8x2048x8x128 : Shape := ⟨4, ![8, 2048, 8, 128]⟩
abbrev S8x2048x1024 : Shape := ⟨3, ![8, 2048, 1024]⟩
abbrev S8x2624x1024 : Shape := ⟨3, ![8, 2624, 1024]⟩
abbrev S640x1 : Shape := ⟨2, ![640, 1]⟩
abbrev S8x640 : Shape := ⟨2, ![8, 640]⟩
abbrev S1x64x1024 : Shape := ⟨3, ![1, 64, 1024]⟩
abbrev S1x2624x1024 : Shape := ⟨3, ![1, 2624, 1024]⟩
abbrev S8x64x640 : Shape := ⟨3, ![8, 64, 640]⟩
abbrev S64x640 : Shape := ⟨2, ![64, 640]⟩
abbrev S1x640 : Shape := ⟨2, ![1, 640]⟩
abbrev S1x64x640 : Shape := ⟨3, ![1, 64, 640]⟩
abbrev S1x64x128 : Shape := ⟨3, ![1, 64, 128]⟩
abbrev S64x128 : Shape := ⟨2, ![64, 128]⟩
abbrev S1x640x128 : Shape := ⟨3, ![1, 640, 128]⟩
abbrev S640x128 : Shape := ⟨2, ![640, 128]⟩
abbrev S64 : Shape := ⟨1, ![64]⟩
abbrev S64x1 : Shape := ⟨2, ![64, 1]⟩

abbrev nBuf : Space → Nat
  | .hbm => 37
  | .vmem => 10
  | .smem => 0
  | _ => 0

abbrev bufTy : (tb : Table) → Fin (tcTables nBuf tb) → BufTy
  | .hbm, ⟨0, _⟩ => ⟨S8x2048x1536, .f32⟩
  | .hbm, ⟨1, _⟩ => ⟨S8x257, .f32⟩
  | .hbm, ⟨2, _⟩ => ⟨S640, .i32⟩
  | .hbm, ⟨3, _⟩ => ⟨S640, .i1⟩
  | .hbm, ⟨4, _⟩ => ⟨S8x2048x512, .f32⟩
  | .hbm, ⟨5, _⟩ => ⟨S8x2048x8x64, .f32⟩
  | .hbm, ⟨6, _⟩ => ⟨S_, .i32⟩
  | .hbm, ⟨7, _⟩ => ⟨S_, .f32⟩
  | .hbm, ⟨8, _⟩ => ⟨S8x2048x8x128, .f32⟩
  | .hbm, ⟨9, _⟩ => ⟨S8x2048x1024, .f32⟩
  | .hbm, ⟨10, _⟩ => ⟨S8x2048x512, .f32⟩
  | .hbm, ⟨11, _⟩ => ⟨S8x2048x8x64, .f32⟩
  | .hbm, ⟨12, _⟩ => ⟨S_, .i32⟩
  | .hbm, ⟨13, _⟩ => ⟨S_, .f32⟩
  | .hbm, ⟨14, _⟩ => ⟨S8x2048x8x128, .f32⟩
  | .hbm, ⟨15, _⟩ => ⟨S8x2048x1024, .f32⟩
  | .hbm, ⟨16, _⟩ => ⟨S8x2048x512, .f32⟩
  | .hbm, ⟨17, _⟩ => ⟨S8x2048x8x64, .f32⟩
  | .hbm, ⟨18, _⟩ => ⟨S_, .i32⟩
  | .hbm, ⟨19, _⟩ => ⟨S_, .f32⟩
  | .hbm, ⟨20, _⟩ => ⟨S8x2048x8x128, .f32⟩
  | .hbm, ⟨21, _⟩ => ⟨S8x2048x1024, .f32⟩
  | .hbm, ⟨22, _⟩ => ⟨S8x2048x1024, .bf16⟩
  | .hbm, ⟨23, _⟩ => ⟨S_, .i32⟩
  | .hbm, ⟨24, _⟩ => ⟨S_, .bf16⟩
  | .hbm, ⟨25, _⟩ => ⟨S8x2624x1024, .bf16⟩
  | .hbm, ⟨26, _⟩ => ⟨S8x2048x1024, .bf16⟩
  | .hbm, ⟨27, _⟩ => ⟨S_, .i32⟩
  | .hbm, ⟨28, _⟩ => ⟨S_, .bf16⟩
  | .hbm, ⟨29, _⟩ => ⟨S8x2624x1024, .bf16⟩
  | .hbm, ⟨30, _⟩ => ⟨S_, .i32⟩
  | .hbm, ⟨31, _⟩ => ⟨S640, .i32⟩
  | .hbm, ⟨32, _⟩ => ⟨S640, .i32⟩
  | .hbm, ⟨33, _⟩ => ⟨S640, .i32⟩
  | .hbm, ⟨34, _⟩ => ⟨S640x1, .i32⟩
  | .hbm, ⟨35, _⟩ => ⟨S8x640, .f32⟩
  | .hbm, ⟨36, _⟩ => ⟨S8x2048x1024, .bf16⟩
  | .local _ .vmem, ⟨0, _⟩ => ⟨S1x64x1024, .f32⟩
  | .local _ .vmem, ⟨1, _⟩ => ⟨S1x64x1024, .f32⟩
  | .local _ .vmem, ⟨2, _⟩ => ⟨S1x2624x1024, .bf16⟩
  | .local _ .vmem, ⟨3, _⟩ => ⟨S1x2624x1024, .bf16⟩
  | .local _ .vmem, ⟨4, _⟩ => ⟨S1x2624x1024, .bf16⟩
  | .local _ .vmem, ⟨5, _⟩ => ⟨S1x2624x1024, .bf16⟩
  | .local _ .vmem, ⟨6, _⟩ => ⟨S8x640, .f32⟩
  | .local _ .vmem, ⟨7, _⟩ => ⟨S1x64x1024, .bf16⟩
  | .local _ .vmem, ⟨8, _⟩ => ⟨S1x64x1024, .bf16⟩
  | .local _ .vmem, ⟨9, _⟩ => ⟨S8x64x640, .f32⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_call4_v0 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c64_i32 : BitVec 32 := 64#32
  let v5 : BitVec 32 := Scalar.muli arg1 c64_i32
  v5
def k0_off1 (i : grid0.Coords) : Fin 3 → Nat :=
  let c0_5 : Index := 0#32
  let arg1 : BitVec 32 := BitVec.ofNat 32 (i 1).val
  let c64_i32 : BitVec 32 := 64#32
  let v5 : BitVec 32 := Scalar.muli arg1 c64_i32
  let v6 : BitVec 32 := v5
  let v21 : Index := Scalar.indexCast v6
  let c0_6 : Index := 0#32
  ![0, v21.toNat, 0]
def k0_off2 (i : grid0.Coords) : Fin 3 → Nat :=
  let c0_11 : Index := 0#32
  let arg1 : BitVec 32 := BitVec.ofNat 32 (i 1).val
  let c64_i32 : BitVec 32 := 64#32
  let v5 : BitVec 32 := Scalar.muli arg1 c64_i32
  let v6 : BitVec 32 := v5
  let v30 : Index := Scalar.indexCast v6
  let c128_12 : Index := 128#32
  ![0, v30.toNat, 128]
def k0_off3 (i : grid0.Coords) : Fin 3 → Nat :=
  let c0_17 : Index := 0#32
  let arg1 : BitVec 32 := BitVec.ofNat 32 (i 1).val
  let c64_i32 : BitVec 32 := 64#32
  let v5 : BitVec 32 := Scalar.muli arg1 c64_i32
  let v6 : BitVec 32 := v5
  let v39 : Index := Scalar.indexCast v6
  let c256_18 : Index := 256#32
  ![0, v39.toNat, 256]
def k0_off4 (i : grid0.Coords) : Fin 3 → Nat :=
  let c0_23 : Index := 0#32
  let arg1 : BitVec 32 := BitVec.ofNat 32 (i 1).val
  let c64_i32 : BitVec 32 := 64#32
  let v5 : BitVec 32 := Scalar.muli arg1 c64_i32
  let v6 : BitVec 32 := v5
  let v48 : Index := Scalar.indexCast v6
  let c384_24 : Index := 384#32
  ![0, v48.toNat, 384]
def k0_off5 (i : grid0.Coords) : Fin 3 → Nat :=
  let c0_29 : Index := 0#32
  let arg1 : BitVec 32 := BitVec.ofNat 32 (i 1).val
  let c64_i32 : BitVec 32 := 64#32
  let v5 : BitVec 32 := Scalar.muli arg1 c64_i32
  let v6 : BitVec 32 := v5
  let v57 : Index := Scalar.indexCast v6
  let c512_30 : Index := 512#32
  ![0, v57.toNat, 512]
def k0_off6 (i : grid0.Coords) : Fin 3 → Nat :=
  let c0_35 : Index := 0#32
  let arg1 : BitVec 32 := BitVec.ofNat 32 (i 1).val
  let c64_i32 : BitVec 32 := 64#32
  let v5 : BitVec 32 := Scalar.muli arg1 c64_i32
  let v6 : BitVec 32 := v5
  let v66 : Index := Scalar.indexCast v6
  let c640_36 : Index := 640#32
  ![0, v66.toNat, 640]
def k0_off7 (i : grid0.Coords) : Fin 3 → Nat :=
  let c0_41 : Index := 0#32
  let arg1 : BitVec 32 := BitVec.ofNat 32 (i 1).val
  let c64_i32 : BitVec 32 := 64#32
  let v5 : BitVec 32 := Scalar.muli arg1 c64_i32
  let v6 : BitVec 32 := v5
  let v75 : Index := Scalar.indexCast v6
  let c768_42 : Index := 768#32
  ![0, v75.toNat, 768]
def k0_off8 (i : grid0.Coords) : Fin 3 → Nat :=
  let c0_47 : Index := 0#32
  let arg1 : BitVec 32 := BitVec.ofNat 32 (i 1).val
  let c64_i32 : BitVec 32 := 64#32
  let v5 : BitVec 32 := Scalar.muli arg1 c64_i32
  let v6 : BitVec 32 := v5
  let v84 : Index := Scalar.indexCast v6
  let c896_48 : Index := 896#32
  ![0, v84.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2624x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2624x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandRefIdeal.lean ====
abbrev S8x2048x1536 : Shape := ⟨3, ![8, 2048, 1536]⟩
abbrev S8x257 : Shape := ⟨2, ![8, 257]⟩
abbrev S8x2048x512 : Shape := ⟨3, ![8, 2048, 512]⟩
abbrev S8x2048x8x64 : Shape := ⟨4, ![8, 2048, 8, 64]⟩
abbrev S_ : Shape := ⟨0, ![]⟩
abbrev S8x2560x8x64 : Shape := ⟨4, ![8, 2560, 8, 64]⟩
abbrev S32 : Shape := ⟨1, ![32]⟩
abbrev S32x1 : Shape := ⟨2, ![32, 1]⟩
abbrev S576 : Shape := ⟨1, ![576]⟩
abbrev S1x576 : Shape := ⟨2, ![1, 576]⟩
abbrev S32x576 : Shape := ⟨2, ![32, 576]⟩
abbrev S8x32x64x8x64 : Shape := ⟨5, ![8, 32, 64, 8, 64]⟩
abbrev S32x576x1 : Shape := ⟨3, ![32, 576, 1]⟩
abbrev S8x32x576x8x64 : Shape := ⟨5, ![8, 32, 576, 8, 64]⟩
abbrev S8x32x8x64x576 : Shape := ⟨5, ![8, 32, 8, 64, 576]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x32x1x1x576 : Shape := ⟨5, ![1, 32, 1, 1, 576]⟩
abbrev S1x1x8x64x576 : Shape := ⟨5, ![1, 1, 8, 64, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩
abbrev S8x2048x8x128 : Shape := ⟨4, ![8, 2048, 8, 128]⟩
abbrev S8x2048x1024 : Shape := ⟨3, ![8, 2048, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8x2048x1536, .f32⟩
  | .hbm, ⟨1, _⟩ => ⟨S8x257, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x8x64, .f32⟩
  | .hbm, ⟨6, _⟩ => ⟨S8x2048x8x64, .f32⟩
  | .hbm, ⟨7, _⟩ => ⟨S8x2048x8x64, .f32⟩
  | .hbm, ⟨8, _⟩ => ⟨S_, .i32⟩
  | .hbm, ⟨9, _⟩ => ⟨S_, .f32⟩
  | .hbm, ⟨10, _⟩ => ⟨S8x2560x8x64, .f32⟩
  | .hbm, ⟨11, _⟩ => ⟨S_, .i32⟩
  | .hbm, ⟨12, _⟩ => ⟨S_, .f32⟩
  | .hbm, ⟨13, _⟩ => ⟨S8x2560x8x64, .f32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32x1, .i32⟩
  | .hbm, ⟨19, _⟩ => ⟨S576, .i32⟩
  | .hbm, ⟨20, _⟩ => ⟨S1x576, .i32⟩
  | .hbm, ⟨21, _⟩ => ⟨S32x576, .i32⟩
  | .hbm, ⟨22, _⟩ => ⟨S32x576, .i32⟩
  | .hbm, ⟨23, _⟩ => ⟨S32x576, .i32⟩
  | .hbm, ⟨24, _⟩ => ⟨S8x32x64x8x64, .f32⟩
  | .hbm, ⟨25, _⟩ => ⟨S_, .i32⟩
  | .hbm, ⟨26, _⟩ => ⟨S32x576, .i32⟩
  | .hbm, ⟨27, _⟩ => ⟨S32x576, .i1⟩
  | .hbm, ⟨28, _⟩ => ⟨S_, .i32⟩
  | .hbm, ⟨29, _⟩ => ⟨S32x576, .i32⟩
  | .hbm, ⟨30, _⟩ => ⟨S32x576, .i32⟩
  | .hbm, ⟨31, _⟩ => ⟨S32x576, .i32⟩
  | .hbm, ⟨32, _⟩ => ⟨S32x576x1, .i32⟩
  | .hbm, ⟨33, _⟩ => ⟨S8x32x576x8x64, .f32⟩
  | .hbm, ⟨34, _⟩ => ⟨S_, .i32⟩
  | .hbm, ⟨35, _⟩ => ⟨S32x576, .i32⟩
  | .hbm, ⟨36, _⟩ => ⟨S32x576, .i1⟩
  | .hbm, ⟨37, _⟩ => ⟨S_, .i32⟩
  | .hbm, ⟨38, _⟩ => ⟨S32x576, .i32⟩
  | .hbm, ⟨39, _⟩ => ⟨S32x576, .i32⟩
  | .hbm, ⟨40, _⟩ => ⟨S32x576, .i32⟩
  | .hbm, ⟨41, _⟩ => ⟨S32x576x1, .i32⟩
  | .hbm, ⟨42, _⟩ => ⟨S8x32x576x8x64, .f32⟩
  | .hbm, ⟨43, _⟩ => ⟨S_, .i32⟩
  | .hbm, ⟨44, _⟩ => ⟨S32x576, .i32⟩
  | .hbm, ⟨45, _⟩ => ⟨S32x576, .i1⟩
  | .hbm, ⟨46, _⟩ => ⟨S8x32x8x64x576, .f32⟩
  | .hbm, ⟨47, _⟩ => ⟨S_, .f32⟩
  | .hbm, ⟨48, _⟩ => ⟨S8x32x8x64x576, .f32⟩
  | .hbm, ⟨49, _⟩ => ⟨S8x32x8x64x576, .f32⟩
  | .hbm, ⟨50, _⟩ => ⟨S64, .i32⟩
  | .hbm, ⟨51, _⟩ => ⟨S64x1, .i32⟩
  | .hbm, ⟨52, _⟩ => ⟨S_, .i32⟩
  | .hbm, ⟨53, _⟩ => ⟨S64x1, .i32⟩
  | .hbm, ⟨54, _⟩ => ⟨S64x1, .i32⟩
  | .hbm, ⟨55, _⟩ => ⟨S576, .i32⟩
  | .hbm, ⟨56, _⟩ => ⟨S1x576, .i32⟩
  | .hbm, ⟨57, _⟩ => ⟨S64x576, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S_, .i32⟩
  | .hbm, ⟨66, _⟩ => ⟨S64x576, .i32⟩
  | .hbm, ⟨67, _⟩ => ⟨S64x576, .i32⟩
  | .hbm, ⟨68, _⟩ => ⟨S_, .i32⟩
  | .hbm, ⟨69, _⟩ => ⟨S64x576, .i32⟩
  | .hbm, ⟨70, _⟩ => ⟨S64x576, .i32⟩
  | .hbm, ⟨71, _⟩ => ⟨S_, .i32⟩
  | .hbm, ⟨72, _⟩ => ⟨S64x576, .i32⟩
  | .hbm, ⟨73, _⟩ => ⟨S64x576, .i1⟩
  | .hbm, ⟨74, _⟩ => ⟨S_, .i32⟩
  | .hbm, ⟨75, _⟩ => ⟨S64x576, .i32⟩
  | .hbm, ⟨76, _⟩ => ⟨S64x576, .i32⟩
  | .hbm, ⟨77, _⟩ => ⟨S64x576, .i32⟩
  | .hbm, ⟨78, _⟩ => ⟨S64x576x1, .i32⟩
  | .hbm, ⟨79, _⟩ => ⟨S8x64x576, .f32⟩
  | .hbm, ⟨80, _⟩ => ⟨S1x32x1x1x576, .i1⟩
  | .hbm, ⟨81, _⟩ => ⟨S1x1x8x64x576, .f32⟩
  | .hbm, ⟨82, _⟩ => ⟨S8x32x8x64x576, .f32⟩
  | .hbm, ⟨83, _⟩ => ⟨S8x32x8x64x576, .f32⟩
  | .hbm, ⟨84, _⟩ => ⟨S_, .f32⟩
  | .hbm, ⟨85, _⟩ => ⟨S_, .f32⟩
  | .hbm, ⟨86, _⟩ => ⟨S8x32x8x64x576, .i1⟩
  | .hbm, ⟨87, _⟩ => ⟨S8x32x8x64x576, .f32⟩
  | .hbm, ⟨88, _⟩ => ⟨S8x32x8x64x576, .f32⟩
  | .hbm, ⟨89, _⟩ => ⟨S_, .f32⟩
  | .hbm, ⟨90, _⟩ => ⟨S8x32x8x64, .f32⟩
  | .hbm, ⟨91, _⟩ => ⟨S_, .f32⟩
  | .hbm, ⟨92, _⟩ => ⟨S8x32x8x64, .f32⟩
  | .hbm, ⟨93, _⟩ => ⟨S8x32x8x64, .f32⟩
  | .hbm, ⟨94, _⟩ => ⟨S8x32x8x64x1, .f32⟩
  | .hbm, ⟨95, _⟩ => ⟨S8x32x8x64x576, .f32⟩
  | .hbm, ⟨96, _⟩ => ⟨S8x32x8x64x576, .f32⟩
  | .hbm, ⟨97, _⟩ => ⟨S8x32x8x64x576, .f32⟩
  | .hbm, ⟨98, _⟩ => ⟨S_, .f32⟩
  | .hbm, ⟨99, _⟩ => ⟨S8x32x8x64, .f32⟩
  | .hbm, ⟨100, _⟩ => ⟨S8x32x8x64x1, .f32⟩
  | .hbm, ⟨101, _⟩ => ⟨S8x32x8x64x576, .f32⟩
  | .hbm, ⟨102, _⟩ => ⟨S8x32x8x64x576, .f32⟩
  | .hbm, ⟨103, _⟩ => ⟨S8x32x8x64x64, .f32⟩
  | .hbm, ⟨104, _⟩ => ⟨S8x32x64x8x64, .f32⟩
  | .hbm, ⟨105, _⟩ => ⟨S8x2048x8x64, .f32⟩
  | .hbm, ⟨106, _⟩ => ⟨S_, .i32⟩
  | .hbm, ⟨107, _⟩ => ⟨S_, .f32⟩
  | .hbm, ⟨108, _⟩ => ⟨S8x2048x8x128, .f32⟩
  | .hbm, ⟨109, _⟩ => ⟨S8x2048x1024, .f32⟩
  | .hbm, ⟨110, _⟩ => ⟨S8x2048x1024, .bf16⟩
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_c_9 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_c_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_call4_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Merge.lean ====
abbrev S16384x2048 : Shape := ⟨2, ![16384, 2048]⟩
abbrev S16384x512 : Shape := ⟨2, ![16384, 512]⟩
abbrev S4x2048x2048 : Shape := ⟨3, ![4, 2048, 2048]⟩
abbrev S4x512x2048 : Shape := ⟨3, ![4, 512, 2048]⟩
abbrev S2048x2048 : Shape := ⟨2, ![2048, 2048]⟩
abbrev S2048 : Shape := ⟨1, ![2048]⟩
abbrev S1x512x2048 : Shape := ⟨3, ![1, 512, 2048]⟩
abbrev S512x2048 : Shape := ⟨2, ![512, 2048]⟩
abbrev S64x2048 : Shape := ⟨2, ![64, 2048]⟩
abbrev S_ : Shape := ⟨0, ![]⟩
abbrev S1024x2048 : Shape := ⟨2, ![1024, 2048]⟩
abbrev S1x2048 : Shape := ⟨2, ![1, 2048]⟩
abbrev S16384x8x64 : Shape := ⟨3, ![16384, 8, 64]⟩
abbrev S16384x8x128 : Shape := ⟨3, ![16384, 8, 128]⟩
abbrev S16384x1024 : Shape := ⟨2, ![16384, 1024]⟩
abbrev S512x1024 : Shape := ⟨2, ![512, 1024]⟩
abbrev S512x512 : Shape := ⟨2, ![512, 512]⟩
abbrev S4x2048x256 : Shape := ⟨3, ![4, 2048, 256]⟩
abbrev S1024x256 : Shape := ⟨2, ![1024, 256]⟩
abbrev S512x256 : Shape := ⟨2, ![512, 256]⟩
abbrev S256x2048 : Shape := ⟨2, ![256, 2048]⟩
abbrev S1x2048x256 : Shape := ⟨3, ![1, 2048, 256]⟩
abbrev S2048x256 : Shape := ⟨2, ![2048, 256]⟩
abbrev S512 : Shape := ⟨1, ![512]⟩
abbrev S512x1 : Shape := ⟨2, ![512, 1]⟩

abbrev nBuf : Space → Nat
  | .hbm => 91
  | .vmem => 28
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x2048, .f32⟩
  | .hbm, ⟨6, _⟩ => ⟨S4x2048x2048, .f32⟩
  | .hbm, ⟨7, _⟩ => ⟨S4x512x2048, .f32⟩
  | .hbm, ⟨8, _⟩ => ⟨S2048x2048, .f32⟩
  | .hbm, ⟨9, _⟩ => ⟨S2048, .f32⟩
  | .hbm, ⟨10, _⟩ => ⟨S4x2048x2048, .bf16⟩
  | .hbm, ⟨11, _⟩ => ⟨S1x512x2048, .f32⟩
  | .hbm, ⟨12, _⟩ => ⟨S512x2048, .f32⟩
  | .hbm, ⟨13, _⟩ => ⟨S64x2048, .f32⟩
  | .hbm, ⟨14, _⟩ => ⟨S_, .f32⟩
  | .hbm, ⟨15, _⟩ => ⟨S64x2048, .f32⟩
  | .hbm, ⟨16, _⟩ => ⟨S64x2048, .f32⟩
  | .hbm, ⟨17, _⟩ => ⟨S_, .f32⟩
  | .hbm, ⟨18, _⟩ => ⟨S64x2048, .f32⟩
  | .hbm, ⟨19, _⟩ => ⟨S64x2048, .f32⟩
  | .hbm, ⟨20, _⟩ => ⟨S_, .f32⟩
  | .hbm, ⟨21, _⟩ => ⟨S64x2048, .f32⟩
  | .hbm, ⟨22, _⟩ => ⟨S64x2048, .f32⟩
  | .hbm, ⟨23, _⟩ => ⟨S_, .f32⟩
  | .hbm, ⟨24, _⟩ => ⟨S64x2048, .f32⟩
  | .hbm, ⟨25, _⟩ => ⟨S64x2048, .f32⟩
  | .hbm, ⟨26, _⟩ => ⟨S_, .f32⟩
  | .hbm, ⟨27, _⟩ => ⟨S64x2048, .f32⟩
  | .hbm, ⟨28, _⟩ => ⟨S64x2048, .f32⟩
  | .hbm, ⟨29, _⟩ => ⟨S_, .f32⟩
  | .hbm, ⟨30, _⟩ => ⟨S64x2048, .f32⟩
  | .hbm, ⟨31, _⟩ => ⟨S64x2048, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S_, .f32⟩
  | .hbm, ⟨36, _⟩ => ⟨S64x2048, .f32⟩
  | .hbm, ⟨37, _⟩ => ⟨S1024x2048, .f32⟩
  | .hbm, ⟨38, _⟩ => ⟨S1024x2048, .bf16⟩
  | .hbm, ⟨39, _⟩ => ⟨S1x512x2048, .f32⟩
  | .hbm, ⟨40, _⟩ => ⟨S512x2048, .f32⟩
  | .hbm, ⟨41, _⟩ => ⟨S512x2048, .bf16⟩
  | .hbm, ⟨42, _⟩ => ⟨S1x512x2048, .f32⟩
  | .hbm, ⟨43, _⟩ => ⟨S512x2048, .f32⟩
  | .hbm, ⟨44, _⟩ => ⟨S64x2048, .f32⟩
  | .hbm, ⟨45, _⟩ => ⟨S_, .f32⟩
  | .hbm, ⟨46, _⟩ => ⟨S64x2048, .f32⟩
  | .hbm, ⟨47, _⟩ => ⟨S64x2048, .f32⟩
  | .hbm, ⟨48, _⟩ => ⟨S_, .f32⟩
  | .hbm, ⟨49, _⟩ => ⟨S64x2048, .f32⟩
  | .hbm, ⟨50, _⟩ => ⟨S64x2048, .f32⟩
  | .hbm, ⟨51, _⟩ => ⟨S_, .f32⟩
  | .hbm, ⟨52, _⟩ => ⟨S64x2048, .f32⟩
  | .hbm, ⟨53, _⟩ => ⟨S64x2048, .f32⟩
  | .hbm, ⟨54, _⟩ => ⟨S_, .f32⟩
  | .hbm, ⟨55, _⟩ => ⟨S64x2048, .f32⟩
  | .hbm, ⟨56, _⟩ => ⟨S64x2048, .f32⟩
  | .hbm, ⟨57, _⟩ => ⟨S_, .f32⟩
  | .hbm, ⟨58, _⟩ => ⟨S64x2048, .f32⟩
  | .hbm, ⟨59, _⟩ => ⟨S64x2048, .f32⟩
  | .hbm, ⟨60, _⟩ => ⟨S_, .f32⟩
  | .hbm, ⟨61, _⟩ => ⟨S64x2048, .f32⟩
  | .hbm, ⟨62, _⟩ => ⟨S64x2048, .f32⟩
  | .hbm, ⟨63, _⟩ => ⟨S_, .f32⟩
  | .hbm, ⟨64, _⟩ => ⟨S64x2048, .f32⟩
  | .hbm, ⟨65, _⟩ => ⟨S64x2048, .f32⟩
  | .hbm, ⟨66, _⟩ => ⟨S_, .f32⟩
  | .hbm, ⟨67, _⟩ => ⟨S64x2048, .f32⟩
  | .hbm, ⟨68, _⟩ => ⟨S1024x2048, .f32⟩
  | .hbm, ⟨69, _⟩ => ⟨S1024x2048, .bf16⟩
  | .hbm, ⟨70, _⟩ => ⟨S1x512x2048, .f32⟩
  | .hbm, ⟨71, _⟩ => ⟨S512x2048, .f32⟩
  | .hbm, ⟨72, _⟩ => ⟨S512x2048, .bf16⟩
  | .hbm, ⟨73, _⟩ => ⟨S2048x2048, .bf16⟩
  | .hbm, ⟨74, _⟩ => ⟨S1x2048, .f32⟩
  | .hbm, ⟨75, _⟩ => ⟨S16384x2048, .bf16⟩
  | .hbm, ⟨76, _⟩ => ⟨S16384x8x64, .f32⟩
  | .hbm, ⟨77, _⟩ => ⟨S_, .i32⟩
  | .hbm, ⟨78, _⟩ => ⟨S_, .f32⟩
  | .hbm, ⟨79, _⟩ => ⟨S16384x8x128, .f32⟩
  | .hbm, ⟨80, _⟩ => ⟨S16384x1024, .f32⟩
  | .hbm, ⟨81, _⟩ => ⟨S16384x1024, .bf16⟩
  | .hbm, ⟨82, _⟩ => ⟨S16384x512, .bf16⟩
  | .hbm, ⟨83, _⟩ => ⟨S16384x8x64, .f32⟩
  | .hbm, ⟨84, _⟩ => ⟨S_, .i32⟩
  | .hbm, ⟨85, _⟩ => ⟨S_, .f32⟩
  | .hbm, ⟨86, _⟩ => ⟨S16384x8x128, .f32⟩
  | .hbm, ⟨87, _⟩ => ⟨S16384x1024, .f32⟩
  | .hbm, ⟨88, _⟩ => ⟨S16384x1024, .bf16⟩
  | .hbm, ⟨89, _⟩ => ⟨S16384x512, .bf16⟩
  | .hbm, ⟨90, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x2048, .f32⟩
  | .local _ .vmem, ⟨11, _⟩ => ⟨S512x2048, .f32⟩
  | .local _ .vmem, ⟨12, _⟩ => ⟨S4x2048x256, .bf16⟩
  | .local _ .vmem, ⟨13, _⟩ => ⟨S4x2048x256, .bf16⟩
  | .local _ .vmem, ⟨14, _⟩ => ⟨S1024x256, .bf16⟩
  | .local _ .vmem, ⟨15, _⟩ => ⟨S1024x256, .bf16⟩
  | .local _ .vmem, ⟨16, _⟩ => ⟨S512x256, .bf16⟩
  | .local _ .vmem, ⟨17, _⟩ => ⟨S512x256, .bf16⟩
  | .local _ .vmem, ⟨18, _⟩ => ⟨S1024x256, .bf16⟩
  | .local _ .vmem, ⟨19, _⟩ => ⟨S1024x256, .bf16⟩
  | .local _ .vmem, ⟨20, _⟩ => ⟨S512x256, .bf16⟩
  | .local _ .vmem, ⟨21, _⟩ => ⟨S512x256, .bf16⟩
  | .local _ .vmem, ⟨22, _⟩ => ⟨S256x2048, .bf16⟩
  | .local _ .vmem, ⟨23, _⟩ => ⟨S256x2048, .bf16⟩
  | .local _ .vmem, ⟨24, _⟩ => ⟨S1x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c : Ref sig .tc := ⟨.hbm, 77, rfl⟩
abbrev main_call0_v0 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_15 : Ref sig .tc := ⟨.hbm, 84, rfl⟩
abbrev main_call1_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v81 : BitVec 1 := Scalar.cmpi .eq arg1 c7_i32
  let v82 : BitVec 32 := Scalar.extui v81
  let c0_i32_53 : BitVec 32 := 0#32
  let v83 : BitVec 1 := Scalar.cmpi .ne v82 c0_i32_53
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MergeRefIdeal.lean ====
abbrev S16384x2048 : Shape := ⟨2, ![16384, 2048]⟩
abbrev S16384x512 : Shape := ⟨2, ![16384, 512]⟩
abbrev S4x2048x2048 : Shape := ⟨3, ![4, 2048, 2048]⟩
abbrev S4x512x2048 : Shape := ⟨3, ![4, 512, 2048]⟩
abbrev S2048x2048 : Shape := ⟨2, ![2048, 2048]⟩
abbrev S2048 : Shape := ⟨1, ![2048]⟩
abbrev S1x2048x2048 : Shape := ⟨3, ![1, 2048, 2048]⟩
abbrev S_ : Shape := ⟨0, ![]⟩
abbrev S1x512x2048 : Shape := ⟨3, ![1, 512, 2048]⟩
abbrev S512x2048 : Shape := ⟨2, ![512, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 91
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x2048, .f32⟩
  | .hbm, ⟨6, _⟩ => ⟨S4x2048x2048, .f32⟩
  | .hbm, ⟨7, _⟩ => ⟨S4x512x2048, .f32⟩
  | .hbm, ⟨8, _⟩ => ⟨S2048x2048, .f32⟩
  | .hbm, ⟨9, _⟩ => ⟨S2048, .f32⟩
  | .hbm, ⟨10, _⟩ => ⟨S1x2048x2048, .f32⟩
  | .hbm, ⟨11, _⟩ => ⟨S2048x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S1x512x2048, .f32⟩
  | .hbm, ⟨22, _⟩ => ⟨S512x2048, .f32⟩
  | .hbm, ⟨23, _⟩ => ⟨S16384x2048, .f32⟩
  | .hbm, ⟨24, _⟩ => ⟨S16384x2048, .f32⟩
  | .hbm, ⟨25, _⟩ => ⟨S1x2048x2048, .f32⟩
  | .hbm, ⟨26, _⟩ => ⟨S2048x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S1x512x2048, .f32⟩
  | .hbm, ⟨37, _⟩ => ⟨S512x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S1x2048x2048, .f32⟩
  | .hbm, ⟨42, _⟩ => ⟨S2048x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S1x512x2048, .f32⟩
  | .hbm, ⟨53, _⟩ => ⟨S512x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S1x2048x2048, .f32⟩
  | .hbm, ⟨58, _⟩ => ⟨S2048x2048, .f32⟩
  | .hbm, ⟨59, _⟩ => ⟨S16384x2048, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384x2048, .f32⟩
  | .hbm, ⟨64, _⟩ => ⟨S16384x2048, .f32⟩
  | .hbm, ⟨65, _⟩ => ⟨S_, .f32⟩
  | .hbm, ⟨66, _⟩ => ⟨S16384x2048, .f32⟩
  | .hbm, ⟨67, _⟩ => ⟨S16384x2048, .f32⟩
  | .hbm, ⟨68, _⟩ => ⟨S1x512x2048, .f32⟩
  | .hbm, ⟨69, _⟩ => ⟨S512x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x1, .f32⟩
  | .hbm, ⟨85, _⟩ => ⟨S16384x2048, .f32⟩
  | .hbm, ⟨86, _⟩ => ⟨S16384x2048, .f32⟩
  | .hbm, ⟨87, _⟩ => ⟨S1x2048, .f32⟩
  | .hbm, ⟨88, _⟩ => ⟨S16384x2048, .f32⟩
  | .hbm, ⟨89, _⟩ => ⟨S16384x2048, .f32⟩
  | .hbm, ⟨90, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Inproj.lean ====
abbrev S8x2048x2048 : Shape := ⟨3, ![8, 2048, 2048]⟩
abbrev S2048 : Shape := ⟨1, ![2048]⟩
abbrev S2048x6936 : Shape := ⟨2, ![2048, 6936]⟩
abbrev S16384x2048 : Shape := ⟨2, ![16384, 2048]⟩
abbrev S1x2048 : Shape := ⟨2, ![1, 2048]⟩
abbrev S2048x64 : Shape := ⟨2, ![2048, 64]⟩
abbrev S_ : Shape := ⟨0, ![]⟩
abbrev S2048x1536 : Shape := ⟨2, ![2048, 1536]⟩
abbrev S2048x512 : Shape := ⟨2, ![2048, 512]⟩
abbrev S2048x256 : Shape := ⟨2, ![2048, 256]⟩
abbrev S2048x16 : Shape := ⟨2, ![2048, 16]⟩
abbrev S2048x112 : Shape := ⟨2, ![2048, 112]⟩
abbrev S2048x8 : Shape := ⟨2, ![2048, 8]⟩
abbrev S2048x120 : Shape := ⟨2, ![2048, 120]⟩
abbrev S2048x1024 : Shape := ⟨2, ![2048, 1024]⟩
abbrev S2048x2944 : Shape := ⟨2, ![2048, 2944]⟩
abbrev S2048x1664 : Shape := ⟨2, ![2048, 1664]⟩
abbrev S2048x10752 : Shape := ⟨2, ![2048, 10752]⟩
abbrev S16384x10752 : Shape := ⟨2, ![16384, 10752]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩
abbrev S8x2048x10752 : Shape := ⟨3, ![8, 2048, 10752]⟩
abbrev S8x2048x3072 : Shape := ⟨3, ![8, 2048, 3072]⟩
abbrev S8x2048x24x128 : Shape := ⟨4, ![8, 2048, 24, 128]⟩
abbrev S8x2048x24x64 : Shape := ⟨4, ![8, 2048, 24, 64]⟩
abbrev S8x2048x1536 : Shape := ⟨3, ![8, 2048, 1536]⟩
abbrev S8x2048x256 : Shape := ⟨3, ![8, 2048, 256]⟩
abbrev S8x2048x1792 : Shape := ⟨3, ![8, 2048, 1792]⟩
abbrev S8x2048x1024 : Shape := ⟨3, ![8, 2048, 1024]⟩
abbrev S8x2048x8x128 : Shape := ⟨4, ![8, 2048, 8, 128]⟩
abbrev S8x2048x8x64 : Shape := ⟨4, ![8, 2048, 8, 64]⟩
abbrev S8x2048x512 : Shape := ⟨3, ![8, 2048, 512]⟩
abbrev S8x2048x16 : Shape := ⟨3, ![8, 2048, 16]⟩
abbrev S8x2048x1552 : Shape := ⟨3, ![8, 2048, 1552]⟩
abbrev S8x2048x8 : Shape := ⟨3, ![8, 2048, 8]⟩
abbrev S8x2048x2056 : Shape := ⟨3, ![8, 2048, 2056]⟩
abbrev S8x1x1792 : Shape := ⟨3, ![8, 1, 1792]⟩
abbrev S8x512x8x64 : Shape := ⟨4, ![8, 512, 8, 64]⟩
abbrev S8x3x1536 : Shape := ⟨3, ![8, 3, 1536]⟩

abbrev nBuf : Space → Nat
  | .hbm => 231
  | .vmem => 10
  | .smem => 0
  | _ => 0

abbrev hbmTy0_0 (i : Nat) : BufTy := match i % 128 with
  | 0 => ⟨S8x2048x2048, .f32⟩
  | 1 => ⟨S2048, .f32⟩
  | 2 => ⟨S2048x6936, .f32⟩
  | 3 => ⟨S16384x2048, .f32⟩
  | 4 => ⟨S1x2048, .f32⟩
  | 5 => ⟨S2048x64, .f32⟩
  | 6 => ⟨S_, .f32⟩
  | 7 => ⟨S2048x64, .f32⟩
  | 8 => ⟨S2048x64, .f32⟩
  | 9 => ⟨S_, .f32⟩
  | 10 => ⟨S2048x64, .f32⟩
  | 11 => ⟨S2048x64, .f32⟩
  | 12 => ⟨S_, .f32⟩
  | 13 => ⟨S2048x64, .f32⟩
  | 14 => ⟨S2048x64, .f32⟩
  | 15 => ⟨S_, .f32⟩
  | 16 => ⟨S2048x64, .f32⟩
  | 17 => ⟨S2048x64, .f32⟩
  | 18 => ⟨S_, .f32⟩
  | 19 => ⟨S2048x64, .f32⟩
  | 20 => ⟨S2048x64, .f32⟩
  | 21 => ⟨S_, .f32⟩
  | 22 => ⟨S2048x64, .f32⟩
  | 23 => ⟨S2048x64, .f32⟩
  | 24 => ⟨S_, .f32⟩
  | 25 => ⟨S2048x64, .f32⟩
  | 26 => ⟨S2048x64, .f32⟩
  | 27 => ⟨S_, .f32⟩
  | 28 => ⟨S2048x64, .f32⟩
  | 29 => ⟨S2048x64, .f32⟩
  | 30 => ⟨S_, .f32⟩
  | 31 => ⟨S2048x64, .f32⟩
  | 32 => ⟨S2048x64, .f32⟩
  | 33 => ⟨S_, .f32⟩
  | 34 => ⟨S2048x64, .f32⟩
  | 35 => ⟨S2048x64, .f32⟩
  | 36 => ⟨S_, .f32⟩
  | 37 => ⟨S2048x64, .f32⟩
  | 38 => ⟨S2048x64, .f32⟩
  | 39 => ⟨S_, .f32⟩
  | 40 => ⟨S2048x64, .f32⟩
  | 41 => ⟨S2048x64, .f32⟩
  | 42 => ⟨S_, .f32⟩
  | 43 => ⟨S2048x64, .f32⟩
  | 44 => ⟨S2048x64, .f32⟩
  | 45 => ⟨S_, .f32⟩
  | 46 => ⟨S2048x64, .f32⟩
  | 47 => ⟨S2048x64, .f32⟩
  | 48 => ⟨S_, .f32⟩
  | 49 => ⟨S2048x64, .f32⟩
  | 50 => ⟨S2048x64, .f32⟩
  | 51 => ⟨S_, .f32⟩
  | 52 => ⟨S2048x64, .f32⟩
  | 53 => ⟨S2048x64, .f32⟩
  | 54 => ⟨S_, .f32⟩
  | 55 => ⟨S2048x64, .f32⟩
  | 56 => ⟨S2048x64, .f32⟩
  | 57 => ⟨S_, .f32⟩
  | 58 => ⟨S2048x64, .f32⟩
  | 59 => ⟨S2048x64, .f32⟩
  | 60 => ⟨S_, .f32⟩
  | 61 => ⟨S2048x64, .f32⟩
  | 62 => ⟨S2048x64, .f32⟩
  | 63 => ⟨S_, .f32⟩
  | 64 => ⟨S2048x64, .f32⟩
  | 65 => ⟨S2048x64, .f32⟩
  | 66 => ⟨S_, .f32⟩
  | 67 => ⟨S2048x64, .f32⟩
  | 68 => ⟨S2048x64, .f32⟩
  | 69 => ⟨S_, .f32⟩
  | 70 => ⟨S2048x64, .f32⟩
  | 71 => ⟨S2048x64, .f32⟩
  | 72 => ⟨S_, .f32⟩
  | 73 => ⟨S2048x64, .f32⟩
  | 74 => ⟨S2048x64, .f32⟩
  | 75 => ⟨S_, .f32⟩
  | 76 => ⟨S2048x64, .f32⟩
  | 77 => ⟨S2048x64, .f32⟩
  | 78 => ⟨S_, .f32⟩
  | 79 => ⟨S2048x64, .f32⟩
  | 80 => ⟨S2048x64, .f32⟩
  | 81 => ⟨S_, .f32⟩
  | 82 => ⟨S2048x64, .f32⟩
  | 83 => ⟨S2048x64, .f32⟩
  | 84 => ⟨S_, .f32⟩
  | 85 => ⟨S2048x64, .f32⟩
  | 86 => ⟨S2048x64, .f32⟩
  | 87 => ⟨S_, .f32⟩
  | 88 => ⟨S2048x64, .f32⟩
  | 89 => ⟨S2048x64, .f32⟩
  | 90 => ⟨S_, .f32⟩
  | 91 => ⟨S2048x64, .f32⟩
  | 92 => ⟨S2048x64, .f32⟩
  | 93 => ⟨S_, .f32⟩
  | 94 => ⟨S2048x64, .f32⟩
  | 95 => ⟨S2048x64, .f32⟩
  | 96 => ⟨S_, .f32⟩
  | 97 => ⟨S2048x64, .f32⟩
  | 98 => ⟨S2048x64, .f32⟩
  | 99 => ⟨S_, .f32⟩
  | 100 => ⟨S2048x64, .f32⟩
  | 101 => ⟨S2048x64, .f32⟩
  | 102 => ⟨S_, .f32⟩
  | 103 => ⟨S2048x64, .f32⟩
  | 104 => ⟨S2048x64, .f32⟩
  | 105 => ⟨S_, .f32⟩
  | 106 => ⟨S2048x64, .f32⟩
  | 107 => ⟨S2048x64, .f32⟩
  | 108 => ⟨S_, .f32⟩
  | 109 => ⟨S2048x64, .f32⟩
  | 110 => ⟨S2048x64, .f32⟩
  | 111 => ⟨S_, .f32⟩
  | 112 => ⟨S2048x64, .f32⟩
  | 113 => ⟨S2048x64, .f32⟩
  | 114 => ⟨S_, .f32⟩
  | 115 => ⟨S2048x64, .f32⟩
  | 116 => ⟨S2048x64, .f32⟩
  | 117 => ⟨S_, .f32⟩
  | 118 => ⟨S2048x64, .f32⟩
  | 119 => ⟨S2048x64, .f32⟩
  | 120 => ⟨S_, .f32⟩
  | 121 => ⟨S2048x64, .f32⟩
  | 122 => ⟨S2048x64, .f32⟩
  | 123 => ⟨S_, .f32⟩
  | 124 => ⟨S2048x64, .f32⟩
  | 125 => ⟨S2048x64, .f32⟩
  | 126 => ⟨S_, .f32⟩
  | 127 => ⟨S2048x64, .f32⟩
  | _ => ⟨S8x2048x2048, .f32⟩

abbrev hbmTy0_1 (i : Nat) : BufTy := match i % 128 with
  | 0 => ⟨S2048x64, .f32⟩
  | 1 => ⟨S_, .f32⟩
  | 2 => ⟨S2048x64, .f32⟩
  | 3 => ⟨S2048x64, .f32⟩
  | 4 => ⟨S_, .f32⟩
  | 5 => ⟨S2048x64, .f32⟩
  | 6 => ⟨S2048x64, .f32⟩
  | 7 => ⟨S_, .f32⟩
  | 8 => ⟨S2048x64, .f32⟩
  | 9 => ⟨S2048x64, .f32⟩
  | 10 => ⟨S_, .f32⟩
  | 11 => ⟨S2048x64, .f32⟩
  | 12 => ⟨S2048x64, .f32⟩
  | 13 => ⟨S_, .f32⟩
  | 14 => ⟨S2048x64, .f32⟩
  | 15 => ⟨S2048x64, .f32⟩
  | 16 => ⟨S_, .f32⟩
  | 17 => ⟨S2048x64, .f32⟩
  | 18 => ⟨S2048x64, .f32⟩
  | 19 => ⟨S_, .f32⟩
  | 20 => ⟨S2048x64, .f32⟩
  | 21 => ⟨S2048x1536, .f32⟩
  | 22 => ⟨S2048x512, .f32⟩
  | 23 => ⟨S2048x64, .f32⟩
  | 24 => ⟨S_, .f32⟩
  | 25 => ⟨S2048x64, .f32⟩
  | 26 => ⟨S2048x64, .f32⟩
  | 27 => ⟨S_, .f32⟩
  | 28 => ⟨S2048x64, .f32⟩
  | 29 => ⟨S2048x64, .f32⟩
  | 30 => ⟨S_, .f32⟩
  | 31 => ⟨S2048x64, .f32⟩
  | 32 => ⟨S2048x64, .f32⟩
  | 33 => ⟨S_, .f32⟩
  | 34 => ⟨S2048x64, .f32⟩
  | 35 => ⟨S2048x64, .f32⟩
  | 36 => ⟨S_, .f32⟩
  | 37 => ⟨S2048x64, .f32⟩
  | 38 => ⟨S2048x64, .f32⟩
  | 39 => ⟨S_, .f32⟩
  | 40 => ⟨S2048x64, .f32⟩
  | 41 => ⟨S2048x64, .f32⟩
  | 42 => ⟨S_, .f32⟩
  | 43 => ⟨S2048x64, .f32⟩
  | 44 => ⟨S2048x64, .f32⟩
  | 45 => ⟨S_, .f32⟩
  | 46 => ⟨S2048x64, .f32⟩
  | 47 => ⟨S2048x512, .f32⟩
  | 48 => ⟨S2048x512, .f32⟩
  | 49 => ⟨S2048x256, .f32⟩
  | 50 => ⟨S2048x16, .f32⟩
  | 51 => ⟨S_, .f32⟩
  | 52 => ⟨S2048x112, .f32⟩
  | 53 => ⟨S2048x8, .f32⟩
  | 54 => ⟨S_, .f32⟩
  | 55 => ⟨S2048x120, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S2048x2944, .f32⟩
  | 63 => ⟨S2048x1664, .f32⟩
  | 64 => ⟨S2048x10752, .f32⟩
  | 65 => ⟨S2048x10752, .bf16⟩
  | 66 => ⟨S16384x2048, .bf16⟩
  | 67 => ⟨S16384x10752, .f32⟩
  | 68 => ⟨S8x2048x10752, .f32⟩
  | 69 => ⟨S8x2048x3072, .f32⟩
  | 70 => ⟨S8x2048x24x128, .f32⟩
  | 71 => ⟨S8x2048x24x64, .f32⟩
  | 72 => ⟨S8x2048x1536, .f32⟩
  | 73 => ⟨S8x2048x256, .f32⟩
  | 74 => ⟨S8x2048x1792, .f32⟩
  | 75 => ⟨S8x2048x1024, .f32⟩
  | 76 => ⟨S8x2048x8x128, .f32⟩
  | 77 => ⟨S8x2048x8x64, .f32⟩
  | 78 => ⟨S8x2048x512, .f32⟩
  | 79 => ⟨S8x2048x512, .f32⟩
  | 80 => ⟨S8x2048x16, .f32⟩
  | 81 => ⟨S8x2048x512, .f32⟩
  | 82 => ⟨S8x2048x1552, .f32⟩
  | 83 => ⟨S8x2048x1536, .f32⟩
  | 84 => ⟨S8x2048x8, .f32⟩
  | 85 => ⟨S8x2048x512, .f32⟩
  | 86 => ⟨S8x2048x2056, .f32⟩
  | 87 => ⟨S8x2048x2048, .bf16⟩
  | 88 => ⟨S8x2048x3072, .f32⟩
  | 89 => ⟨S8x2048x24x128, .f32⟩
  | 90 => ⟨S8x2048x24x64, .f32⟩
  | 91 => ⟨S8x2048x1536, .f32⟩
  | 92 => ⟨S8x1x1792, .f32⟩
  | 93 => ⟨S8x2048x1024, .f32⟩
  | 94 => ⟨S8x2048x8x128, .f32⟩
  | 95 => ⟨S8x2048x8x64, .f32⟩
  | 96 => ⟨S8x512x8x64, .f32⟩
  | 97 => ⟨S8x2048x1024, .f32⟩
  | 98 => ⟨S8x2048x8x128, .f32⟩
  | 99 => ⟨S8x2048x8x64, .f32⟩
  | 100 => ⟨S8x512x8x64, .f32⟩
  | 101 => ⟨S8x2048x1536, .f32⟩
  | 102 => ⟨S8x3x1536, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x2048, .bf16⟩
  | .local _ .vmem, ⟨6, _⟩ => ⟨S1024x2048, .bf16⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_cst_9 : Ref sig .tc := ⟨.hbm, 36, rfl⟩
abbrev main_v23 : Ref sig .tc := ⟨.hbm, 37, rfl⟩
abbrev main_v24 : Ref sig .tc := ⟨.hbm, 38, rfl⟩
abbrev main_cst_10 : Ref sig .tc := ⟨.hbm, 39, rfl⟩
abbrev main_v25 : Ref sig .tc := ⟨.hbm, 40, rfl⟩
abbrev main_v26 : Ref sig .tc := ⟨.hbm, 41, rfl⟩
abbrev main_cst_11 : Ref sig .tc := ⟨.hbm, 42, rfl⟩
abbrev main_v27 : Ref sig .tc := ⟨.hbm, 43, rfl⟩
abbrev main_v28 : Ref sig .tc := ⟨.hbm, 44, rfl⟩
abbrev main_cst_12 : Ref sig .tc := ⟨.hbm, 45, rfl⟩
abbrev main_v29 : Ref sig .tc := ⟨.hbm, 46, rfl⟩
abbrev main_v30 : Ref sig .tc := ⟨.hbm, 47, rfl⟩
abbrev main_cst_13 : Ref sig .tc := ⟨.hbm, 48, rfl⟩
abbrev main_v31 : Ref sig .tc := ⟨.hbm, 49, rfl⟩
abbrev main_v32 : Ref sig .tc := ⟨.hbm, 50, rfl⟩
abbrev main_cst_14 : Ref sig .tc := ⟨.hbm, 51, rfl⟩
abbrev main_v33 : Ref sig .tc := ⟨.hbm, 52, rfl⟩
abbrev main_v34 : Ref sig .tc := ⟨.hbm, 53, rfl⟩
abbrev main_cst_15 : Ref sig .tc := ⟨.hbm, 54, rfl⟩
abbrev main_v35 : Ref sig .tc := ⟨.hbm, 55, rfl⟩
abbrev main_v36 : Ref sig .tc := ⟨.hbm, 56, rfl⟩
abbrev main_cst_16 : Ref sig .tc := ⟨.hbm, 57, rfl⟩
abbrev main_v37 : Ref sig .tc := ⟨.hbm, 58, rfl⟩
abbrev main_v38 : Ref sig .tc := ⟨.hbm, 59, rfl⟩
abbrev main_cst_17 : Ref sig .tc := ⟨.hbm, 60, rfl⟩
abbrev main_v39 : Ref sig .tc := ⟨.hbm, 61, rfl⟩
abbrev main_v40 : Ref sig .tc := ⟨.hbm, 62, rfl⟩
abbrev main_cst_18 : Ref sig .tc := ⟨.hbm, 63, rfl⟩
abbrev main_v41 : Ref sig .tc := ⟨.hbm, 64, rfl⟩
abbrev main_v42 : Ref sig .tc := ⟨.hbm, 65, rfl⟩
abbrev main_cst_19 : Ref sig .tc := ⟨.hbm, 66, rfl⟩
abbrev main_v43 : Ref sig .tc := ⟨.hbm, 67, rfl⟩
abbrev main_v44 : Ref sig .tc := ⟨.hbm, 68, rfl⟩
abbrev main_cst_20 : Ref sig .tc := ⟨.hbm, 69, rfl⟩
abbrev main_v45 : Ref sig .tc := ⟨.hbm, 70, rfl⟩
abbrev main_v46 : Ref sig .tc := ⟨.hbm, 71, rfl⟩
abbrev main_cst_21 : Ref sig .tc := ⟨.hbm, 72, rfl⟩
abbrev main_v47 : Ref sig .tc := ⟨.hbm, 73, rfl⟩
abbrev main_v48 : Ref sig .tc := ⟨.hbm, 74, rfl⟩
abbrev main_cst_22 : Ref sig .tc := ⟨.hbm, 75, rfl⟩
abbrev main_v49 : Ref sig .tc := ⟨.hbm, 76, rfl⟩
abbrev main_v50 : Ref sig .tc := ⟨.hbm, 77, rfl⟩
abbrev main_cst_23 : Ref sig .tc := ⟨.hbm, 78, rfl⟩
abbrev main_v51 : Ref sig .tc := ⟨.hbm, 79, rfl⟩
abbrev main_v52 : Ref sig .tc := ⟨.hbm, 80, rfl⟩
abbrev main_cst_24 : Ref sig .tc := ⟨.hbm, 81, rfl⟩
abbrev main_v53 : Ref sig .tc := ⟨.hbm, 82, rfl⟩
abbrev main_v54 : Ref sig .tc := ⟨.hbm, 83, rfl⟩
abbrev main_cst_25 : Ref sig .tc := ⟨.hbm, 84, rfl⟩
abbrev main_v55 : Ref sig .tc := ⟨.hbm, 85, rfl⟩
abbrev main_v56 : Ref sig .tc := ⟨.hbm, 86, rfl⟩
abbrev main_cst_26 : Ref sig .tc := ⟨.hbm, 87, rfl⟩
abbrev main_v57 : Ref sig .tc := ⟨.hbm, 88, rfl⟩
abbrev main_v58 : Ref sig .tc := ⟨.hbm, 89, rfl⟩
abbrev main_cst_27 : Ref sig .tc := ⟨.hbm, 90, rfl⟩
abbrev main_v59 : Ref sig .tc := ⟨.hbm, 91, rfl⟩
abbrev main_v60 : Ref sig .tc := ⟨.hbm, 92, rfl⟩
abbrev main_cst_28 : Ref sig .tc := ⟨.hbm, 93, rfl⟩
abbrev main_v61 : Ref sig .tc := ⟨.hbm, 94, rfl⟩
abbrev main_v62 : Ref sig .tc := ⟨.hbm, 95, rfl⟩
abbrev main_cst_29 : Ref sig .tc := ⟨.hbm, 96, rfl⟩
abbrev main_v63 : Ref sig .tc := ⟨.hbm, 97, rfl⟩
abbrev main_v64 : Ref sig .tc := ⟨.hbm, 98, rfl⟩
abbrev main_cst_30 : Ref sig .tc := ⟨.hbm, 99, rfl⟩
abbrev main_v65 : Ref sig .tc := ⟨.hbm, 100, rfl⟩
abbrev main_v66 : Ref sig .tc := ⟨.hbm, 101, rfl⟩
abbrev main_cst_31 : Ref sig .tc := ⟨.hbm, 102, rfl⟩
abbrev main_v67 : Ref sig .tc := ⟨.hbm, 103, rfl⟩
abbrev main_v68 : Ref sig .tc := ⟨.hbm, 104, rfl⟩
abbrev main_cst_32 : Ref sig .tc := ⟨.hbm, 105, rfl⟩
abbrev main_v69 : Ref sig .tc := ⟨.hbm, 106, rfl⟩
abbrev main_v70 : Ref sig .tc := ⟨.hbm, 107, rfl⟩
abbrev main_cst_33 : Ref sig .tc := ⟨.hbm, 108, rfl⟩
abbrev main_v71 : Ref sig .tc := ⟨.hbm, 109, rfl⟩
abbrev main_v72 : Ref sig .tc := ⟨.hbm, 110, rfl⟩
abbrev main_cst_34 : Ref sig .tc := ⟨.hbm, 111, rfl⟩
abbrev main_v73 : Ref sig .tc := ⟨.hbm, 112, rfl⟩
abbrev main_v74 : Ref sig .tc := ⟨.hbm, 113, rfl⟩
abbrev main_cst_35 : Ref sig .tc := ⟨.hbm, 114, rfl⟩
abbrev main_v75 : Ref sig .tc := ⟨.hbm, 115, rfl⟩
abbrev main_v76 : Ref sig .tc := ⟨.hbm, 116, rfl⟩
abbrev main_cst_36 : Ref sig .tc := ⟨.hbm, 117, rfl⟩
abbrev main_v77 : Ref sig .tc := ⟨.hbm, 118, rfl⟩
abbrev main_v78 : Ref sig .tc := ⟨.hbm, 119, rfl⟩
abbrev main_cst_37 : Ref sig .tc := ⟨.hbm, 120, rfl⟩
abbrev main_v79 : Ref sig .tc := ⟨.hbm, 121, rfl⟩
abbrev main_v80 : Ref sig .tc := ⟨.hbm, 122, rfl⟩
abbrev main_cst_38 : Ref sig .tc := ⟨.hbm, 123, rfl⟩
abbrev main_v81 : Ref sig .tc := ⟨.hbm, 124, rfl⟩
abbrev main_v82 : Ref sig .tc := ⟨.hbm, 125, rfl⟩
abbrev main_cst_39 : Ref sig .tc := ⟨.hbm, 126, rfl⟩
abbrev main_v83 : Ref sig .tc := ⟨.hbm, 127, rfl⟩
abbrev main_v84 : Ref sig .tc := ⟨.hbm, 128, rfl⟩
abbrev main_cst_40 : Ref sig .tc := ⟨.hbm, 129, rfl⟩
abbrev main_v85 : Ref sig .tc := ⟨.hbm, 130, rfl⟩
abbrev main_v86 : Ref sig .tc := ⟨.hbm, 131, rfl⟩
abbrev main_cst_41 : Ref sig .tc := ⟨.hbm, 132, rfl⟩
abbrev main_v87 : Ref sig .tc := ⟨.hbm, 133, rfl⟩
abbrev main_v88 : Ref sig .tc := ⟨.hbm, 134, rfl⟩
abbrev main_cst_42 : Ref sig .tc := ⟨.hbm, 135, rfl⟩
abbrev main_v89 : Ref sig .tc := ⟨.hbm, 136, rfl⟩
abbrev main_v90 : Ref sig .tc := ⟨.hbm, 137, rfl⟩
abbrev main_cst_43 : Ref sig .tc := ⟨.hbm, 138, rfl⟩
abbrev main_v91 : Ref sig .tc := ⟨.hbm, 139, rfl⟩
abbrev main_v92 : Ref sig .tc := ⟨.hbm, 140, rfl⟩
abbrev main_cst_44 : Ref sig .tc := ⟨.hbm, 141, rfl⟩
abbrev main_v93 : Ref sig .tc := ⟨.hbm, 142, rfl⟩
abbrev main_v94 : Ref sig .tc := ⟨.hbm, 143, rfl⟩
abbrev main_cst_45 : Ref sig .tc := ⟨.hbm, 144, rfl⟩
abbrev main_v95 : Ref sig .tc := ⟨.hbm, 145, rfl⟩
abbrev main_v96 : Ref sig .tc := ⟨.hbm, 146, rfl⟩
abbrev main_cst_46 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_47 : Ref sig .tc := ⟨.hbm, 152, rfl⟩
abbrev main_v101 : Ref sig .tc := ⟨.hbm, 153, rfl⟩
abbrev main_v102 : Ref sig .tc := ⟨.hbm, 154, rfl⟩
abbrev main_cst_48 : Ref sig .tc := ⟨.hbm, 155, rfl⟩
abbrev main_v103 : Ref sig .tc := ⟨.hbm, 156, rfl⟩
abbrev main_v104 : Ref sig .tc := ⟨.hbm, 157, rfl⟩
abbrev main_cst_49 : Ref sig .tc := ⟨.hbm, 158, rfl⟩
abbrev main_v105 : Ref sig .tc := ⟨.hbm, 159, rfl⟩
abbrev main_v106 : Ref sig .tc := ⟨.hbm, 160, rfl⟩
abbrev main_cst_50 : Ref sig .tc := ⟨.hbm, 161, rfl⟩
abbrev main_v107 : Ref sig .tc := ⟨.hbm, 162, rfl⟩
abbrev main_v108 : Ref sig .tc := ⟨.hbm, 163, rfl⟩
abbrev main_cst_51 : Ref sig .tc := ⟨.hbm, 164, rfl⟩
abbrev main_v109 : Ref sig .tc := ⟨.hbm, 165, rfl⟩
abbrev main_v110 : Ref sig .tc := ⟨.hbm, 166, rfl⟩
abbrev main_cst_52 : Ref sig .tc := ⟨.hbm, 167, rfl⟩
abbrev main_v111 : Ref sig .tc := ⟨.hbm, 168, rfl⟩
abbrev main_v112 : Ref sig .tc := ⟨.hbm, 169, rfl⟩
abbrev main_cst_53 : Ref sig .tc := ⟨.hbm, 170, rfl⟩
abbrev main_v113 : Ref sig .tc := ⟨.hbm, 171, rfl⟩
abbrev main_v114 : Ref sig .tc := ⟨.hbm, 172, rfl⟩
abbrev main_cst_54 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_55 : Ref sig .tc := ⟨.hbm, 179, rfl⟩
abbrev main_v120 : Ref sig .tc := ⟨.hbm, 180, rfl⟩
abbrev main_v121 : Ref sig .tc := ⟨.hbm, 181, rfl⟩
abbrev main_cst_56 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133_0 : Ref sig .tc := ⟨.hbm, 194, rfl⟩
abbrev main_v133_1 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 21], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S8x2048x2048 : Shape := ⟨3, ![8, 2048, 2048]⟩
abbrev S2048 : Shape := ⟨1, ![2048]⟩
abbrev S2048x6936 : Shape := ⟨2, ![2048, 6936]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x6936 : Shape := ⟨3, ![8, 2048, 6936]⟩
abbrev S8x2048x1792 : Shape := ⟨3, ![8, 2048, 1792]⟩
abbrev S8x2048x1552 : Shape := ⟨3, ![8, 2048, 1552]⟩
abbrev S8x2048x1536 : Shape := ⟨3, ![8, 2048, 1536]⟩
abbrev S8x2048x2056 : Shape := ⟨3, ![8, 2048, 2056]⟩
abbrev S8x2048x512 : Shape := ⟨3, ![8, 2048, 512]⟩
abbrev S8x2048x8x64 : Shape := ⟨4, ![8, 2048, 8, 64]⟩
abbrev S8x3x1536 : Shape := ⟨3, ![8, 3, 1536]⟩
abbrev S8x2051x1536 : Shape := ⟨3, ![8, 2051, 1536]⟩
abbrev S8x1x1792 : Shape := ⟨3, ![8, 1, 1792]⟩
abbrev S8x512x8x64 : Shape := ⟨4, ![8, 512, 8, 64]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x6936, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S8x2048x6936, .f32⟩
  | .hbm, ⟨20, _⟩ => ⟨S8x2048x1792, .f32⟩
  | .hbm, ⟨21, _⟩ => ⟨S8x2048x1552, .f32⟩
  | .hbm, ⟨22, _⟩ => ⟨S8x2048x1536, .f32⟩
  | .hbm, ⟨23, _⟩ => ⟨S8x2048x2056, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x8x64, .f32⟩
  | .hbm, ⟨28, _⟩ => ⟨S8x2048x8x64, .f32⟩
  | .hbm, ⟨29, _⟩ => ⟨S_, .f32⟩
  | .hbm, ⟨30, _⟩ => ⟨S8x3x1536, .f32⟩
  | .hbm, ⟨31, _⟩ => ⟨S8x2048x1536, .f32⟩
  | .hbm, ⟨32, _⟩ => ⟨S8x2051x1536, .f32⟩
  | .hbm, ⟨33, _⟩ => ⟨S8x2048x2048, .bf16⟩
  | .hbm, ⟨34, _⟩ => ⟨S8x1x1792, .f32⟩
  | .hbm, ⟨35, _⟩ => ⟨S8x512x8x64, .f32⟩
  | .hbm, ⟨36, _⟩ => ⟨S8x512x8x64, .f32⟩
  | .hbm, ⟨37, _⟩ => ⟨S8x3x1536, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Proof.Common.lean ====
module

public import Idealize.ShloMosaic.Lib.Pointwise
public import Idealize.ShloMosaic.Lib.Pipeline.ValueKit
public import Idealize.ShloMosaic.Lib.Pipeline.ReadBack

@[expose] public section

noncomputable section

namespace Cert.Common

open Idealize.ShloMosaic

/-- Root-mean-square normalisation of one row of 2048 numbers, times a gain per lane. -/
def rms (x g : Fin 2048 → EReal) (l : Fin 2048) : EReal :=
  x l * Ideal.rsqrt (Ideal.div (∑ k, x k * x k) (Ideal.ofBits FTy.f32 1157627904#32)
    + Ideal.ofBits FTy.f32 897988541#32) * g l

/-- The integer zero, converted, is zero. -/
theorem sitofp_zero : (FloatOps.sitofp (F := Ideal) FTy.f32 (0#32 : BitVec 32) : EReal) = 0 := by
  show (((0#32 : BitVec 32).toInt : ℝ) : EReal) = 0
  simp

/-- The logistic gate. -/
def gate (x : EReal) : EReal := Ideal.div 1 (1 + Ideal.exp (-x))

/-- A sum over 128 lanes of which the last 64 are zero is the sum over the first 64. -/
theorem sum_half (F : Fin 128 → EReal) (f : Fin 64 → EReal) (h : ∀ d : Fin 64, F ⟨d.val, by omega⟩ = f d)
    (h0 : ∀ d : Fin 128, 64 ≤ d.val → F d = 0) : ∑ d, F d = ∑ d, f d := by
  rw [show (∑ d : Fin 128, F d) = ∑ d : Fin (64 + 64), F d from rfl, Fin.sum_univ_add]
  rw [Finset.sum_eq_zero (fun (d : Fin 64) _ => h0 (Fin.natAdd 64 d) (by show 64 ≤ 64 + d.val; omega)), add_zero]
  exact Finset.sum_congr rfl fun d _ => h d

/-- The same, head by head: eight heads in slots of 128 lanes whose last 64 are zero. -/
theorem sum_slots (F : Fin 1024 → EReal) (f : Fin 512 → EReal)
    (h : ∀ (k : Fin 8) (d : Fin 64), F ⟨k.val * 128 + d.val, by omega⟩ = f ⟨k.val * 64 + d.val, by omega⟩)
    (h0 : ∀ x : Fin 1024, 64 ≤ x.val % 128 → F x = 0) : ∑ x, F x = ∑ x, f x := by
  rw [← Fin.sum_mul_add_fin 8 128 F, ← Fin.sum_mul_add_fin 8 64 f]
  refine Finset.sum_congr rfl fun k _ => sum_half _ _ (fun d => h k d) (fun d hd => h0 _ ?_)
  show 64 ≤ (k.val * 128 + d.val) % 128
  omega

end Cert.Common

end
-- ==== Proof.Softmax.lean ====
module

public import proofs.«01_k».proof.Proof.Common

@[expose] public section

noncomputable section

namespace Cert.Common

open Idealize.ShloMosaic

/-- The softmax of the scores `s`, shifted by the greatest score, applied to `v`: the quotient of two sums. -/
def soft {n : ℕ} (s v : Fin n → EReal) : EReal :=
  Ideal.div (∑ x, Ideal.exp (s x - Finset.univ.fold max ⊥ s) * v x) (∑ x, Ideal.exp (s x - Finset.univ.fold max ⊥ s))

/-- The same as a sum of weights times values: what a softmax followed by a product computes. -/
def weighted {n : ℕ} (s v : Fin n → EReal) : EReal :=
  ∑ x, Ideal.div (Ideal.exp (s x - Finset.univ.fold max ⊥ s)) (∑ x, Ideal.exp (s x - Finset.univ.fold max ⊥ s)) * v x

/-- The exponential of minus infinity, shifted, is zero. -/
theorem exp_bot_sub (M : EReal) : Ideal.exp (⊥ - M) = 0 := by
  rw [sub_eq_add_neg, EReal.bot_add]; rfl

/-- A non-negative number that is not infinite goes through a sum of extended reals. -/
theorem sum_mul_real {ι : Type} (S : Finset ι) (f : ι → EReal) (a : EReal) (h : 0 ≤ a) (ht : a ≠ ⊤) :
    (∑ i ∈ S, f i) * a = ∑ i ∈ S, f i * a := by
  classical
  induction S using Finset.induction_on with
  | empty => simp
  | insert i S hi ih => rw [Finset.sum_insert hi, Finset.sum_insert hi, EReal.right_distrib_of_nonneg_of_ne_top h ht, ih]

/-- Scores of which none is plus infinity and one is a number: the greatest is a number `μ`, and the sum of the
    exponentials is a positive number. -/
theorem denom {n : ℕ} (s : Fin n → EReal) (ht : ∀ x, s x ≠ ⊤) (hb : ∃ x, s x ≠ ⊥) :
    ∃ d : ℝ, 0 < d ∧ (∑ x, Ideal.exp (s x - Finset.univ.fold max ⊥ s)) = (d : EReal) := by
  obtain ⟨x0, h0⟩ := hb
  have hsup : Finset.univ.fold max ⊥ s = Finset.univ.sup s := rfl
  obtain ⟨i, _, hi⟩ := Finset.exists_mem_eq_sup Finset.univ ⟨x0, Finset.mem_univ _⟩ s
  have hib : s i ≠ ⊥ := fun h => h0 (le_bot_iff.mp (((Finset.le_sup (f := s) (Finset.mem_univ x0)).trans hi.le).trans h.le))
  rw [hsup, hi]
  obtain ⟨μ, hμ⟩ : ∃ μ : ℝ, s i = (μ : EReal) := ⟨(s i).toReal, (EReal.coe_toReal (ht i) hib).symm⟩
  rw [hμ]
  have hp : ∀ x, ∃ p : ℝ, 0 ≤ p ∧ Ideal.exp (s x - (μ : EReal)) = (p : EReal) := by
    intro x
    by_cases hx : s x = ⊥
    · exact ⟨0, le_refl _, by rw [hx, exp_bot_sub]; rfl⟩
    · refine ⟨Real.exp ((s x).toReal - μ), (Real.exp_pos _).le, ?_⟩
      conv_lhs => rw [← EReal.coe_toReal (ht x) hx]
      rw [← EReal.coe_sub]; rfl
  choose p hp0 hpe using hp
  have hsum : (∑ x, Ideal.exp (s x - (μ : EReal))) = ((∑ x, p x : ℝ) : EReal) := by
    rw [Finset.sum_congr rfl fun x _ => hpe x]
    exact (map_sum (⟨⟨Real.toEReal, EReal.coe_zero⟩, EReal.coe_add⟩ : ℝ →+ EReal) p Finset.univ).symm
  refine ⟨∑ x, p x, ?_, hsum⟩
  have hi1 : p i = 1 := by
    have := hpe i
    rw [hμ, ← EReal.coe_sub, sub_self] at this
    have h1 : (Real.exp 0 : EReal) = (p i : EReal) := this
    rw [Real.exp_zero] at h1
    exact (EReal.coe_injective h1).symm
  have := Finset.single_le_sum (f := p) (fun x _ => hp0 x) (Finset.mem_univ i)
  linarith

/-- Division by a positive number is multiplication by its inverse. -/
theorem div_pos_real (x : EReal) (d : ℝ) (h : 0 < d) : Ideal.div x (d : EReal) = x * ((d⁻¹ : ℝ) : EReal) := by
  unfold Ideal.div
  rw [if_neg (by exact_mod_cast h.ne'), EReal.coe_inv]

/-- The two forms of a softmax agree, whatever the values are. -/
theorem soft_eq_weighted {n : ℕ} (s v : Fin n → EReal) (ht : ∀ x, s x ≠ ⊤) (hb : ∃ x, s x ≠ ⊥) : soft s v = weighted s v := by
  obtain ⟨d, hd, e⟩ := denom s ht hb
  unfold soft weighted
  rw [e, div_pos_real _ d hd, sum_mul_real _ _ _ (by exact_mod_cast (inv_pos.mpr hd).le) (EReal.coe_ne_top _)]
  refine Finset.sum_congr rfl fun x _ => ?_
  rw [div_pos_real _ d hd]
  exact mul_right_comm _ _ _

/-- The softmax of values that are all zero is zero. -/
theorem soft_zero {n : ℕ} (s : Fin n → EReal) (v : Fin n → EReal) (hv : ∀ x, v x = 0) (ht : ∀ x, s x ≠ ⊤) (hb : ∃ x, s x ≠ ⊥) :
    soft s v = 0 := by
  obtain ⟨d, hd, e⟩ := denom s ht hb
  unfold soft
  rw [e, div_pos_real _ d hd, Finset.sum_eq_zero fun x _ => by rw [hv, mul_zero], zero_mul]

/-- Scores that are minus infinity past the first `n` count for nothing, nor do the values there or wherever the score
    is minus infinity. -/
theorem soft_window {n k : ℕ} (s v : Fin (n + k) → EReal) (s' v' : Fin n → EReal) (hs : ∀ x : Fin n, s (Fin.castAdd k x) = s' x)
    (h0 : ∀ x : Fin k, s (Fin.natAdd n x) = ⊥) (hv : ∀ x : Fin n, s' x ≠ ⊥ → v (Fin.castAdd k x) = v' x) :
    soft s v = soft s' v' := by
  have hM : Finset.univ.fold max ⊥ s = Finset.univ.fold max ⊥ s' := by
    show Finset.univ.sup s = Finset.univ.sup s'
    refine le_antisymm (Finset.sup_le fun x _ => ?_) (Finset.sup_le fun x _ => ?_)
    · refine Fin.addCases (fun x => ?_) (fun x => ?_) x
      · rw [hs]; exact Finset.le_sup (f := s') (Finset.mem_univ x)
      · rw [h0]; exact bot_le
    · rw [← hs]; exact Finset.le_sup (f := s) (Finset.mem_univ _)
  unfold soft
  rw [hM, Fin.sum_univ_add, Fin.sum_univ_add]
  have z1 : ∀ x : Fin k, Ideal.exp (s (Fin.natAdd n x) - Finset.univ.fold max ⊥ s') = 0 := fun x => by rw [h0, exp_bot_sub]
  rw [Finset.sum_eq_zero (fun x (_ : x ∈ Finset.univ) => by rw [z1, zero_mul] : ∀ x ∈ (Finset.univ : Finset (Fin k)),
    Ideal.exp (s (Fin.natAdd n x) - Finset.univ.fold max ⊥ s') * v (Fin.natAdd n x) = 0),
    Finset.sum_eq_zero (fun x (_ : x ∈ Finset.univ) => z1 x), add_zero, add_zero]
  refine congrArg₂ Ideal.div (Finset.sum_congr rfl fun x _ => ?_) (Finset.sum_congr rfl fun x _ => by rw [hs])
  rw [hs]
  by_cases hx : s' x = ⊥
  · rw [hx, exp_bot_sub, zero_mul, zero_mul]
  · rw [hv x hx]

end Cert.Common

end
-- ==== Proof.BandBlock.lean ====
module

public import proofs.«01_k».proof.Proof.Gen.BandIdeal.Value
public import proofs.«01_k».proof.Proof.Softmax

@[expose] public section

set_option maxRecDepth 16384

noncomputable section

namespace Cert.BandIdeal.Maths

open Idealize.ShloMosaic Idealize.ShloMosaic.TcCoe Idealize.SL.Sem
open Idealize.ShloMosaic.Pipeline (Dat)
open Cert.BandIdeal Cert.BandIdeal.Gen Cert.Common

variable (m : (ℓ : Loc nD τ sig) → Buf (Elt Ideal) ℓ)

/-- The lane `n` of a row, lanes counted round. -/
abbrev lane (g : Fin 640 → EReal) (n : ℕ) : EReal := g ⟨n % 640, Nat.mod_lt _ (by omega)⟩

/-- One stage of the rotation of the bias rows: the rows whose bit `b` is set are rolled by `k` lanes. -/
abbrev stage (b k : BitVec 32) (x : FVec Ideal S64x640 .f32) : FVec Ideal S64x640 .f32 :=
  select (cmpi .eq (andi (shrsi (iota .tc S64x640 32 [0] iota_S64x640_d0_w32) (broadcast S64x640 b)) (broadcast S64x640 1#32))
      (broadcast S64x640 1#32))
    (dynamicRotate 1 k none x rotates_S64x640_d1) x

/-- A stage at an index: a row already rolled by `s` lanes is rolled by `B` more if its bit is set. -/
theorem stage_at (b k : BitVec 32) (B : ℕ) (hk : k.toNat = B) (hK : B ≤ 32)
    (hb : ∀ r : Fin 64, IntOp.cmpi CmpIPredicate.eq (IntOp.andi (IntOp.shrsi ArithUnit.vector (BitVec.ofNat 32 ↑r) b) 1#32) 1#32
      = if r.val / B % 2 = 1 then 1#1 else 0#1)
    (x : FVec Ideal S64x640 .f32) (g : Fin 640 → EReal) (s : ℕ) (r : Fin 64)
    (hx : ∀ (l : Fin 640), x (ix2 r l) = lane g (l.val + 640 - s)) (hs : s ≤ 64) (l : Fin 640) :
    stage b k x (ix2 r l) = lane g (l.val + 640 - (s + r.val / B % 2 * B)) := by
  unfold stage
  pointwise
  rw [hb r]
  by_cases h : r.val / B % 2 = 1
  · rw [if_pos h, h]
    refine (show Scalar.select 1#1 _ _ = _ from rfl).trans ((hx _).trans (congrArg g (Fin.ext ?_)))
    show ((l.val + 640 - k.toNat % 640) % 640 + 640 - s) % 640 = (l.val + 640 - (s + 1 * B)) % 640
    omega
  · rw [if_neg h]
    refine (show Scalar.select 0#1 _ _ = _ from rfl).trans ((hx _).trans (congrArg g (Fin.ext ?_)))
    show (l.val + 640 - s) % 640 = (l.val + 640 - (s + r.val / B % 2 * B)) % 640
    rw [show r.val / B % 2 = 0 by omega]
    omega

/-- The six stages over one row of the table, broadcast to 64 rows. -/
abbrev rolled (v : FVec Ideal S1x640 .f32) : FVec Ideal S64x640 .f32 :=
  stage 5#32 32#32 (stage 4#32 16#32 (stage 3#32 8#32 (stage 2#32 4#32 (stage 1#32 2#32 (stage 0#32 1#32
    (broadcastTo S64x640 (shapeCast S1x640 (shapeCast S1x640 v shapeCasts_S1x640_S1x640) shapeCasts_S1x640_S1x640)
      broadcasts_S1x640_S64x640))))))

/-- Row `r` ends rolled by `r` lanes. -/
theorem rolled_at (v : FVec Ideal S1x640 .f32) (r : Fin 64) (l : Fin 640) :
    rolled v (ix2 r l) = lane (fun l => v (ix2 0 l)) (l.val + 640 - r.val) := by
  have h0 : ∀ l : Fin 640, broadcastTo S64x640 (shapeCast S1x640 (shapeCast S1x640 v shapeCasts_S1x640_S1x640)
      shapeCasts_S1x640_S1x640) broadcasts_S1x640_S64x640 (ix2 r l) = lane (fun l => v (ix2 0 l)) (l.val + 640 - 0) := by
    intro l
    pointwise
    refine congrArg v (congrArg (ix2 0) (Fin.ext ?_))
    show l.val = (l.val + 640 - 0) % 640
    omega
  have h1 := stage_at 0#32 1#32 1 rfl (by omega) (by decide +kernel) _ _ _ r h0 (by omega)
  have h2 := stage_at 1#32 2#32 2 rfl (by omega) (by decide +kernel) _ _ _ r h1 (by omega)
  have h3 := stage_at 2#32 4#32 4 rfl (by omega) (by decide +kernel) _ _ _ r h2 (by omega)
  have h4 := stage_at 3#32 8#32 8 rfl (by omega) (by decide +kernel) _ _ _ r h3 (by omega)
  have h5 := stage_at 4#32 16#32 16 rfl (by omega) (by decide +kernel) _ _ _ r h4 (by omega)
  have h6 := stage_at 5#32 32#32 32 rfl (by omega) (by decide +kernel) _ _ _ r h5 (by omega)
  refine (h6 l).trans (congrArg (lane _) ?_)
  omega

/-- One head's slab of the bias table as it is stored: row `r` of head `h` is the head's row rolled by `r` lanes. -/
theorem slab (g : FVec Ideal S8x640 .f32) (h : ℕ) (inb : ∀ a : Fin S8x640.rank, (![h, 0] : Fin S8x640.rank → ℕ) a + (![1, 640] : Fin S8x640.rank → ℕ) a ≤ S8x640.size a) (j : S8x64x640.Idx) (x : S1x64x640.Idx)
    (hx : ∀ a : Fin 3, (j a).val = (![h, 0, 0] : Fin 3 → ℕ) a + (x a).val) :
    shapeCast S1x64x640 (rolled (View.ld (Val := Elt Ideal) (S := S8x640) (e' := .f32) g (Rect.unit ![h, 0] ![1, 640] inb))) shapeCasts_S64x640_S1x64x640 x
      = lane (fun l => g (ix2 (j 0) l)) ((j 2).val + 640 - (j 1).val) := by
  have e0 : (j 0).val = h := by have := hx 0; have : (x 0).val < 1 := (x 0).isLt; simp at *; omega
  have e1 : (j 1).val = (x 1).val := by have := hx 1; simpa using this
  have e2 : (j 2).val = (x 2).val := by have := hx 2; simpa using this
  idx_vars x
  have f : shapeCast S1x64x640 (rolled (View.ld (Val := Elt Ideal) (S := S8x640) (e' := .f32) g (Rect.unit ![h, 0] ![1, 640] inb))) shapeCasts_S64x640_S1x64x640 (ix3 x0 x1 x2)
    = rolled (View.ld (Val := Elt Ideal) (S := S8x640) (e' := .f32) g (Rect.unit ![h, 0] ![1, 640] inb)) (ix2 x1 x2) := by
    generalize rolled (View.ld (Val := Elt Ideal) (S := S8x640) (e' := .f32) g (Rect.unit ![h, 0] ![1, 640] inb)) = q
    pointwise
  refine f.trans ((rolled_at _ x1 x2).trans ?_)
  rw [e1, e2]
  refine View.ld_unit_apply_of (Val := Elt Ideal) (S := S8x640) (e := .f32) g _ _ inb (ix2 0 _) (ix2 (j 0) _) fun a => ?_
  fin_cases a
  · exact e0
  · exact (Nat.zero_add _).symm

/-- The first grid point fills the scratch with the rotated bias rows. -/
theorem scr0 (c : Dev nD) (t : Fin cfg0.N) (h : t.val % 256 = 0) (j : S8x64x640.Idx) :
    (outsAt0 m c t.val t.isLt).2 j
      = lane (fun l => (show FVec Ideal S8x640 .f32 from iblk m c 3 t) (ix2 (j 0) l)) ((j 2).val + 640 - (j 1).val) := by
  rw [outsAt0_A m c t h]
  frame_out
  refine View.canon_eq_of_allAt _ _ _ (View.cover_of_tiled_head _ _ _ (by rfl) _) ?_
  refine View.allAt_cons_unit _ _ _ _ _ (fun x hx => ?_) ?_
  · exact slab (iblk m c 3 t) 7 inb_S8x640_S1x640_7_0 j x hx
  refine View.allAt_cons_unit _ _ _ _ _ (fun x hx => ?_) ?_
  · exact slab (iblk m c 3 t) 6 inb_S8x640_S1x640_6_0 j x hx
  refine View.allAt_cons_unit _ _ _ _ _ (fun x hx => ?_) ?_
  · exact slab (iblk m c 3 t) 5 inb_S8x640_S1x640_5_0 j x hx
  refine View.allAt_cons_unit _ _ _ _ _ (fun x hx => ?_) ?_
  · exact slab (iblk m c 3 t) 4 inb_S8x640_S1x640_4_0 j x hx
  refine View.allAt_cons_unit _ _ _ _ _ (fun x hx => ?_) ?_
  · exact slab (iblk m c 3 t) 3 inb_S8x640_S1x640_3_0 j x hx
  refine View.allAt_cons_unit _ _ _ _ _ (fun x hx => ?_) ?_
  · exact slab (iblk m c 3 t) 2 inb_S8x640_S1x640_2_0 j x hx
  refine View.allAt_cons_unit _ _ _ _ _ (fun x hx => ?_) ?_
  · exact slab (iblk m c 3 t) 1 inb_S8x640_S1x640_1_0 j x hx
  refine View.allAt_cons_unit _ _ _ _ _ (fun x hx => ?_) ?_
  · exact slab (iblk m c 3 t) 0 inb_S8x640_S1x640_0_0 j x hx
  exact View.allAt_nil _ _

/-- Which block each window reads at point `t`: batch row `t / 32`, chunk `t % 32`. -/
theorem idx : ∀ t : Fin cfg0.N, win0_0.index t = ![t.val / 32, t.val % 32, 0] ∧ win0_1.index t = ![t.val / 32, 0, 0]
    ∧ win0_2.index t = ![t.val / 32, 0, 0] ∧ win0_3.index t = ![0, 0] ∧ win0_4.index t = ![t.val / 32, t.val % 32, 0] :=
  (by decide +kernel : ∀ t : Fin grid0.N, _)

/-- The chunk of point `t` is its second grid coordinate. -/
theorem coord : ∀ t : Fin cfg0.N, (grid0.coords t 1).val = t.val % 32 :=
  (by decide +kernel : ∀ t : Fin grid0.N, _)

/-- The biases are the same at every grid point. -/
theorem blk3_pred (c : Dev nD) (t s : Fin cfg0.N) : iblk m c 3 s = iblk m c 3 t := by
  funext y
  blk_ext [iblk, idx t, idx s]

/-- At every point the scratch holds the rotated bias rows. -/
theorem scr (c : Dev nD) : ∀ (n : ℕ) (h : n < cfg0.N) (j : S8x64x640.Idx), (outsAt0 m c n h).2 j
      = lane (fun l => (show FVec Ideal S8x640 .f32 from iblk m c 3 ⟨n, h⟩) (ix2 (j 0) l)) ((j 2).val + 640 - (j 1).val) := by
  intro n
  induction n using Nat.strong_induction_on with
  | _ n ih =>
    intro h j
    by_cases h0 : n % 256 = 0
    · exact scr0 m c ⟨n, h⟩ h0 j
    · have hp : n - 1 < cfg0.N := by omega
      rw [show outsAt0 m c n h = _ from outsAt0_B m c ⟨n, h⟩ h0]
      frame_out
      rw [← blk3_pred m c ⟨n, h⟩ ⟨n - 1, hp⟩]
      exact ih (n - 1) (by omega) hp j

/-- The value of one eighth. -/
abbrev eighth : EReal := Ideal.ofBits FTy.f32 1040187392#32

/-- The body's mask: the key lies in the band and is not a padded one. -/
theorem mask_at : ∀ (c : Fin 32) (x : Fin 640),
    IntOp.andi (IntOp.cmpi .slt (BitVec.ofNat 32 x.val) 576#32)
      (IntOp.cmpi .sge (IntOp.addi (BitVec.ofNat 32 x.val) (Scalar.muli (BitVec.ofNat 32 c.val) 64#32)) 512#32)
      = if x.val < 576 ∧ 512 ≤ x.val + 64 * c.val then 1#1 else 0#1 := by
  decide +kernel

/-- The literal the body masks with is minus infinity. -/
theorem neg_inf : Ideal.ofBits FTy.f32 4286578688#32 = ⊥ := by
  show Ideal.ieee 8 23 4286578688#32 = ⊥
  unfold Ideal.ieee
  simp

/-- Choosing by a condition written as one bit. -/
theorem select_if (p : Prop) [Decidable p] (a b : EReal) : Scalar.select (if p then 1#1 else 0#1) a b = if p then a else b := by
  by_cases h : p
  · rw [if_pos h, if_pos h]; rfl
  · rw [if_neg h, if_neg h]; rfl

/-- What the body computes for one head from its loads. -/
abbrev head (i : grid0.Coords) (q : FVec Ideal S1x64x128 .f32) (k v : FVec Ideal S1x640x128 .bf16) (b : FVec Ideal S1x64x640 .f32) :
    FVec Ideal S1x64x128 .bf16 :=
  k0_pay80 (k0_pay44 (k0_pay32 i) (k0_pay33 q k) b) (k0_pay71 (k0_pay45 (k0_pay32 i) (k0_pay33 q k) b) v)

/-- One head of the body: the softmax of the scores inside the band, applied to the values of the window. -/
theorem head_at (i : grid0.Coords) (q : FVec Ideal S1x64x128 .f32) (k v : FVec Ideal S1x640x128 .bf16) (b : FVec Ideal S1x64x640 .f32)
    (r : Fin 64) (l : Fin 128) : head i q k v b (ix3 0 r l)
      = soft (fun x : Fin 640 => if x.val < 576 ∧ 512 ≤ x.val + 64 * (i 1).val then
          (∑ y : Fin 128, q (ix3 0 r y) * eighth * k (ix3 0 x y)) + b (ix3 0 r x) else ⊥) (fun x => v (ix3 0 x l)) := by
  unfold head
  pointwise [k0_pay80, k0_pay44, k0_pay45, k0_pay43, k0_pay71, k0_pay33, k0_pay32]
  unfold soft eighth
  have hm : ∀ x : Fin 640, _ := fun x => mask_at (i 1) x
  simp only [hm, select_if, neg_inf]

/-- Lane `y` of head `h`, in slots of 128 lanes. -/
abbrev slot (h : Fin 8) (y : Fin 128) : Fin 1024 := ⟨h.val * 128 + y.val, by omega⟩

/-- Key `x` of the window of chunk `c`, among the padded keys. -/
abbrev key (c : Fin 32) (x : Fin 640) : Fin 2624 := ⟨c.val * 64 + x.val, by omega⟩

/-- One head of one block's result, from the blocks: `c` is the chunk, `r` the query of the chunk, `l` the lane. -/
def blockOut (c : Fin 32) (q : FVec Ideal S1x64x1024 .f32) (k v : FVec Ideal S1x2624x1024 .bf16) (g : FVec Ideal S8x640 .f32)
    (h : Fin 8) (r : Fin 64) (l : Fin 128) : EReal :=
  soft (fun x : Fin 640 => if x.val < 576 ∧ 512 ≤ x.val + 64 * c.val then
      (∑ y : Fin 128, q (ix3 0 r (slot h y)) * eighth * k (ix3 0 (key c x) (slot h y)))
        + lane (fun l => g (ix2 h l)) (x.val + 640 - r.val) else ⊥)
    (fun x => v (ix3 0 (key c x) (slot h l)))

/-- What the body stores for one head is that head's part of the block's result. -/
theorem piece (i : grid0.Coords) (q : FVec Ideal S1x64x1024 .f32) (k v : FVec Ideal S1x2624x1024 .bf16) (g : FVec Ideal S8x640 .f32)
    (b : FVec Ideal S1x64x640 .f32) (h : Fin 8)
    (hb : ∀ (r : Fin 64) (z : Fin 640), b (ix3 0 r z) = lane (fun l => g (ix2 h l)) (z.val + 640 - r.val))
    (lo : ℕ) (elo : lo = h.val * 128) (ko : Fin S1x2624x1024.rank → ℕ) (hk : ko = ![0, (i 1).val * 64, h.val * 128])
    (qi : ∀ a : Fin S1x64x1024.rank, (![0, 0, lo] : Fin S1x64x1024.rank → ℕ) a + (![1, 64, 128] : Fin S1x64x1024.rank → ℕ) a ≤ S1x64x1024.size a)
    (ki : ∀ a : Fin S1x2624x1024.rank, ko a + (![1, 640, 128] : Fin S1x2624x1024.rank → ℕ) a ≤ S1x2624x1024.size a)
    (j : S1x64x1024.Idx) (x : S1x64x128.Idx)
    (hx : ∀ a : Fin 3, (j a).val = (![0, 0, lo] : Fin 3 → ℕ) a + (x a).val) :
    head i (View.ld (Val := Elt Ideal) (S := S1x64x1024) (e' := .f32) q (Rect.unit ![0, 0, lo] ![1, 64, 128] qi))
      (View.ld (Val := Elt Ideal) (S := S1x2624x1024) (e' := .bf16) k (Rect.unit ko ![1, 640, 128] ki))
      (View.ld (Val := Elt Ideal) (S := S1x2624x1024) (e' := .bf16) v (Rect.unit ko ![1, 640, 128] ki)) b x
    = blockOut (i 1) q k v g ⟨(j 2).val / 128, Nat.div_lt_of_lt_mul (j 2).isLt⟩ (j 1) ⟨(j 2).val % 128, Nat.mod_lt _ (by omega)⟩ := by
  subst hk elo
  have e1 : j 1 = x 1 := Fin.ext (by have := hx 1; simpa using this)
  have e2 : (j 2).val = h.val * 128 + (x 2).val := by have := hx 2; simpa using this
  have hx2 : (x 2).val < 128 := (x 2).isLt
  have eh : (⟨(j 2).val / 128, Nat.div_lt_of_lt_mul (j 2).isLt⟩ : Fin 8) = h := Fin.ext (by show (j 2).val / 128 = h.val; omega)
  have el : (⟨(j 2).val % 128, Nat.mod_lt _ (by omega)⟩ : Fin 128) = x 2 := Fin.ext (by show (j 2).val % 128 = (x 2).val; omega)
  rw [eh, el, e1]
  idx_vars x
  have x0 : x0 = 0 := Subsingleton.elim _ _
  subst x0
  refine (head_at i _ _ _ _ x1 x2).trans ?_
  unfold blockOut
  have hq : ∀ y : Fin 128, View.ld (Val := Elt Ideal) (S := S1x64x1024) (e' := .f32) q (Rect.unit ![0, 0, h.val * 128] ![1, 64, 128] qi) (ix3 0 x1 y)
      = q (ix3 0 x1 (slot h y)) := fun y =>
    View.ld_unit_apply_of (Val := Elt Ideal) (S := S1x64x1024) (e := .f32) q _ _ qi (ix3 0 x1 y) (ix3 0 x1 (slot h y)) fun a => by
      fin_cases a <;> simp
  have hw : ∀ (k : FVec Ideal S1x2624x1024 .bf16) (z : Fin 640) (y : Fin 128),
      View.ld (Val := Elt Ideal) (S := S1x2624x1024) (e' := .bf16) k (Rect.unit ![0, (i 1).val * 64, h.val * 128] ![1, 640, 128] ki) (ix3 0 z y)
      = k (ix3 0 (key (i 1) z) (slot h y)) := fun k z y =>
    View.ld_unit_apply_of (Val := Elt Ideal) (S := S1x2624x1024) (e := .bf16) k _ _ ki (ix3 0 z y) (ix3 0 (key (i 1) z) (slot h y)) fun a => by
      fin_cases a <;> simp
  refine congrArg₂ soft (funext fun z => ?_) (funext fun z => hw v z x2)
  refine if_congr Iff.rfl (congrArg₂ (· + ·) ?_ (hb x1 z)) rfl
  exact Finset.sum_congr rfl fun y _ => congrArg₂ (· * ·) (congrArg (· * eighth) (hq y)) (hw k z y)

/-- The bias rows loaded for head `h` from the scratch's contents. -/
theorem ld_bias (g : FVec Ideal S8x640 .f32) (s : FVec Ideal S8x64x640 .f32)
    (hs : ∀ j : S8x64x640.Idx, s j = lane (fun l => g (ix2 (j 0) l)) ((j 2).val + 640 - (j 1).val)) (h : Fin 8)
    (so : ℕ) (eso : so = h.val)
    (si : ∀ a : Fin S8x64x640.rank, (![so, 0, 0] : Fin S8x64x640.rank → ℕ) a + (![1, 64, 640] : Fin S8x64x640.rank → ℕ) a ≤ S8x64x640.size a)
    (r : Fin 64) (z : Fin 640) :
    View.ld (Val := Elt Ideal) (S := S8x64x640) (e' := .f32) s (Rect.unit ![so, 0, 0] ![1, 64, 640] si) (ix3 0 r z)
      = lane (fun l => g (ix2 h l)) (z.val + 640 - r.val) := by
  subst eso
  refine (View.ld_unit_apply_of (Val := Elt Ideal) (S := S8x64x640) (e := .f32) s _ _ si (ix3 0 r z) (ix3 h r z) fun a => ?_).trans (hs _)
  fin_cases a <;> simp

/-- Where the loads of the keys and values start. -/
theorem offs : ∀ t : Fin cfg0.N, k0_off1 (grid0.coords t) = ![0, (grid0.coords t 1).val * 64, 0] ∧ k0_off2 (grid0.coords t) = ![0, (grid0.coords t 1).val * 64, 128] ∧ k0_off3 (grid0.coords t) = ![0, (grid0.coords t 1).val * 64, 256] ∧ k0_off4 (grid0.coords t) = ![0, (grid0.coords t 1).val * 64, 384] ∧ k0_off5 (grid0.coords t) = ![0, (grid0.coords t 1).val * 64, 512] ∧ k0_off6 (grid0.coords t) = ![0, (grid0.coords t 1).val * 64, 640] ∧ k0_off7 (grid0.coords t) = ![0, (grid0.coords t 1).val * 64, 768] ∧ k0_off8 (grid0.coords t) = ![0, (grid0.coords t 1).val * 64, 896] :=
  (by decide +kernel : ∀ t : Fin grid0.N, _)

/-- What a later grid point writes out. -/
theorem out_B (c : Dev nD) (t : Fin cfg0.N) (h : ¬ t.val % 256 = 0) (j : S1x64x1024.Idx) :
    (outsAt0 m c t.val t.isLt).1 j
      = blockOut (grid0.coords t 1) (iblk m c 0 t) (iblk m c 1 t) (iblk m c 2 t) (iblk m c 3 t)
        ⟨(j 2).val / 128, Nat.div_lt_of_lt_mul (j 2).isLt⟩ (j 1) ⟨(j 2).val % 128, Nat.mod_lt _ (by omega)⟩ := by
  obtain ⟨o0, o1, o2, o3, o4, o5, o6, o7⟩ := offs t
  have hs : ∀ j : S8x64x640.Idx, View.read (Elt Ideal) (View.whole cc0_scratch0) ((Memref.isWhole_whole cc0_scratch0).unread
        (outsAt0 m c (t.val - 1) (Nat.lt_of_le_of_lt (Nat.sub_le _ _) t.isLt)).2) j
      = lane (fun l => (show FVec Ideal S8x640 .f32 from iblk m c 3 t) (ix2 (j 0) l)) ((j 2).val + 640 - (j 1).val) := by
    intro j
    rw [Idealize.ShloMosaic.read_unread_whole, scr, blk3_pred m c t]
  rw [outsAt0_B m c t h]
  frame_out
  refine View.canon_eq_of_allAt _ _ _ (View.cover_of_tiled_head _ _ _ (by rfl) _) ?_
  refine View.allAt_cons_unit _ _ _ _ _ (fun x hx => ?_) ?_
  · exact piece (grid0.coords t) (iblk m c 0 t) (iblk m c 1 t) (iblk m c 2 t) (iblk m c 3 t) _ 7 (ld_bias _ _ hs 7 7 rfl inb_S8x64x640_S1x64x640_7_0_0)
      896 rfl _ o7 inb_S1x64x1024_S1x64x128_0_0_896 (k0_off8_inb (grid0.coords t)) j x hx
  refine View.allAt_cons_unit _ _ _ _ _ (fun x hx => ?_) ?_
  · exact piece (grid0.coords t) (iblk m c 0 t) (iblk m c 1 t) (iblk m c 2 t) (iblk m c 3 t) _ 6 (ld_bias _ _ hs 6 6 rfl inb_S8x64x640_S1x64x640_6_0_0)
      768 rfl _ o6 inb_S1x64x1024_S1x64x128_0_0_768 (k0_off7_inb (grid0.coords t)) j x hx
  refine View.allAt_cons_unit _ _ _ _ _ (fun x hx => ?_) ?_
  · exact piece (grid0.coords t) (iblk m c 0 t) (iblk m c 1 t) (iblk m c 2 t) (iblk m c 3 t) _ 5 (ld_bias _ _ hs 5 5 rfl inb_S8x64x640_S1x64x640_5_0_0)
      640 rfl _ o5 inb_S1x64x1024_S1x64x128_0_0_640 (k0_off6_inb (grid0.coords t)) j x hx
  refine View.allAt_cons_unit _ _ _ _ _ (fun x hx => ?_) ?_
  · exact piece (grid0.coords t) (iblk m c 0 t) (iblk m c 1 t) (iblk m c 2 t) (iblk m c 3 t) _ 4 (ld_bias _ _ hs 4 4 rfl inb_S8x64x640_S1x64x640_4_0_0)
      512 rfl _ o4 inb_S1x64x1024_S1x64x128_0_0_512 (k0_off5_inb (grid0.coords t)) j x hx
  refine View.allAt_cons_unit _ _ _ _ _ (fun x hx => ?_) ?_
  · exact piece (grid0.coords t) (iblk m c 0 t) (iblk m c 1 t) (iblk m c 2 t) (iblk m c 3 t) _ 3 (ld_bias _ _ hs 3 3 rfl inb_S8x64x640_S1x64x640_3_0_0)
      384 rfl _ o3 inb_S1x64x1024_S1x64x128_0_0_384 (k0_off4_inb (grid0.coords t)) j x hx
  refine View.allAt_cons_unit _ _ _ _ _ (fun x hx => ?_) ?_
  · exact piece (grid0.coords t) (iblk m c 0 t) (iblk m c 1 t) (iblk m c 2 t) (iblk m c 3 t) _ 2 (ld_bias _ _ hs 2 2 rfl inb_S8x64x640_S1x64x640_2_0_0)
      256 rfl _ o2 inb_S1x64x1024_S1x64x128_0_0_256 (k0_off3_inb (grid0.coords t)) j x hx
  refine View.allAt_cons_unit _ _ _ _ _ (fun x hx => ?_) ?_
  · exact piece (grid0.coords t) (iblk m c 0 t) (iblk m c 1 t) (iblk m c 2 t) (iblk m c 3 t) _ 1 (ld_bias _ _ hs 1 1 rfl inb_S8x64x640_S1x64x640_1_0_0)
      128 rfl _ o1 inb_S1x64x1024_S1x64x128_0_0_128 (k0_off2_inb (grid0.coords t)) j x hx
  refine View.allAt_cons_unit _ _ _ _ _ (fun x hx => ?_) ?_
  · exact piece (grid0.coords t) (iblk m c 0 t) (iblk m c 1 t) (iblk m c 2 t) (iblk m c 3 t) _ 0 (ld_bias _ _ hs 0 0 rfl inb_S8x64x640_S1x64x640_0_0_0)
      0 rfl _ o0 inb_S1x64x1024_S1x64x128_0_0_0 (k0_off1_inb (grid0.coords t)) j x hx
  exact View.allAt_nil _ _

/-- What the first grid point writes out. -/
theorem out_A (c : Dev nD) (t : Fin cfg0.N) (h : t.val % 256 = 0) (j : S1x64x1024.Idx) :
    (outsAt0 m c t.val t.isLt).1 j
      = blockOut (grid0.coords t 1) (iblk m c 0 t) (iblk m c 1 t) (iblk m c 2 t) (iblk m c 3 t)
        ⟨(j 2).val / 128, Nat.div_lt_of_lt_mul (j 2).isLt⟩ (j 1) ⟨(j 2).val % 128, Nat.mod_lt _ (by omega)⟩ := by
  obtain ⟨o0, o1, o2, o3, o4, o5, o6, o7⟩ := offs t
  have hs := scr0 m c t h
  rw [outsAt0_A m c t h] at hs ⊢
  frame_out at hs
  frame_out
  refine View.canon_eq_of_allAt _ _ _ (View.cover_of_tiled_head _ _ _ (by rfl) _) ?_
  refine View.allAt_cons_unit _ _ _ _ _ (fun x hx => ?_) ?_
  · exact piece (grid0.coords t) (iblk m c 0 t) (iblk m c 1 t) (iblk m c 2 t) (iblk m c 3 t) _ 7 (fun r z => (congrFun (View.readCov_eq_canon' _ _ _) _).trans (ld_bias _ _ hs 7 7 rfl inb_S8x64x640_S1x64x640_7_0_0 r z))
      896 rfl _ o7 inb_S1x64x1024_S1x64x128_0_0_896 (k0_off8_inb (grid0.coords t)) j x hx
  refine View.allAt_cons_unit _ _ _ _ _ (fun x hx => ?_) ?_
  · exact piece (grid0.coords t) (iblk m c 0 t) (iblk m c 1 t) (iblk m c 2 t) (iblk m c 3 t) _ 6 (fun r z => (congrFun (View.readCov_eq_canon' _ _ _) _).trans (ld_bias _ _ hs 6 6 rfl inb_S8x64x640_S1x64x640_6_0_0 r z))
      768 rfl _ o6 inb_S1x64x1024_S1x64x128_0_0_768 (k0_off7_inb (grid0.coords t)) j x hx
  refine View.allAt_cons_unit _ _ _ _ _ (fun x hx => ?_) ?_
  · exact piece (grid0.coords t) (iblk m c 0 t) (iblk m c 1 t) (iblk m c 2 t) (iblk m c 3 t) _ 5 (fun r z => (congrFun (View.readCov_eq_canon' _ _ _) _).trans (ld_bias _ _ hs 5 5 rfl inb_S8x64x640_S1x64x640_5_0_0 r z))
      640 rfl _ o5 inb_S1x64x1024_S1x64x128_0_0_640 (k0_off6_inb (grid0.coords t)) j x hx
  refine View.allAt_cons_unit _ _ _ _ _ (fun x hx => ?_) ?_
  · exact piece (grid0.coords t) (iblk m c 0 t) (iblk m c 1 t) (iblk m c 2 t) (iblk m c 3 t) _ 4 (fun r z => (congrFun (View.readCov_eq_canon' _ _ _) _).trans (ld_bias _ _ hs 4 4 rfl inb_S8x64x640_S1x64x640_4_0_0 r z))
      512 rfl _ o4 inb_S1x64x1024_S1x64x128_0_0_512 (k0_off5_inb (grid0.coords t)) j x hx
  refine View.allAt_cons_unit _ _ _ _ _ (fun x hx => ?_) ?_
  · exact piece (grid0.coords t) (iblk m c 0 t) (iblk m c 1 t) (iblk m c 2 t) (iblk m c 3 t) _ 3 (fun r z => (congrFun (View.readCov_eq_canon' _ _ _) _).trans (ld_bias _ _ hs 3 3 rfl inb_S8x64x640_S1x64x640_3_0_0 r z))
      384 rfl _ o3 inb_S1x64x1024_S1x64x128_0_0_384 (k0_off4_inb (grid0.coords t)) j x hx
  refine View.allAt_cons_unit _ _ _ _ _ (fun x hx => ?_) ?_
  · exact piece (grid0.coords t) (iblk m c 0 t) (iblk m c 1 t) (iblk m c 2 t) (iblk m c 3 t) _ 2 (fun r z => (congrFun (View.readCov_eq_canon' _ _ _) _).trans (ld_bias _ _ hs 2 2 rfl inb_S8x64x640_S1x64x640_2_0_0 r z))
      256 rfl _ o2 inb_S1x64x1024_S1x64x128_0_0_256 (k0_off3_inb (grid0.coords t)) j x hx
  refine View.allAt_cons_unit _ _ _ _ _ (fun x hx => ?_) ?_
  · exact piece (grid0.coords t) (iblk m c 0 t) (iblk m c 1 t) (iblk m c 2 t) (iblk m c 3 t) _ 1 (fun r z => (congrFun (View.readCov_eq_canon' _ _ _) _).trans (ld_bias _ _ hs 1 1 rfl inb_S8x64x640_S1x64x640_1_0_0 r z))
      128 rfl _ o1 inb_S1x64x1024_S1x64x128_0_0_128 (k0_off2_inb (grid0.coords t)) j x hx
  refine View.allAt_cons_unit _ _ _ _ _ (fun x hx => ?_) ?_
  · exact piece (grid0.coords t) (iblk m c 0 t) (iblk m c 1 t) (iblk m c 2 t) (iblk m c 3 t) _ 0 (fun r z => (congrFun (View.readCov_eq_canon' _ _ _) _).trans (ld_bias _ _ hs 0 0 rfl inb_S8x64x640_S1x64x640_0_0_0 r z))
      0 rfl _ o0 inb_S1x64x1024_S1x64x128_0_0_0 (k0_off1_inb (grid0.coords t)) j x hx
  exact View.allAt_nil _ _

/-- What any grid point writes out. -/
theorem out_at (c : Dev nD) (t : Fin cfg0.N) (j : S1x64x1024.Idx) :
    (outsAt0 m c t.val t.isLt).1 j
      = blockOut (grid0.coords t 1) (iblk m c 0 t) (iblk m c 1 t) (iblk m c 2 t) (iblk m c 3 t)
        ⟨(j 2).val / 128, Nat.div_lt_of_lt_mul (j 2).isLt⟩ (j 1) ⟨(j 2).val % 128, Nat.mod_lt _ (by omega)⟩ := by
  by_cases h : t.val % 256 = 0
  · exact out_A m c t h j
  · exact out_B m c t h j

end Cert.BandIdeal.Maths

end
-- ==== Proof.BandValue.lean ====
module

public import proofs.«01_k».proof.Proof.Gen.BandIdeal.Value
public import proofs.«01_k».proof.Proof.BandBlock

@[expose] public section

set_option maxRecDepth 16384

noncomputable section

namespace Cert.BandIdeal.Maths

open Idealize.ShloMosaic Idealize.ShloMosaic.TcCoe Idealize.SL.Sem
open Idealize.ShloMosaic.Pipeline (Dat)
open Cert.BandIdeal Cert.BandIdeal.Gen Cert.Common

variable (m : (ℓ : Loc nD τ sig) → Buf (Elt Ideal) ℓ)

/-- The rows of the projection that the attention takes: queries, keys and values side by side. -/
abbrev argA (c : Dev nD) : FVec Ideal S8x2048x1536 .f32 := m ((c.tc : Thread nD τ).loc main_arg0)

/-- The table of relative biases. -/
abbrev argR (c : Dev nD) : FVec Ideal S8x257 .f32 := m ((c.tc : Thread nD τ).loc main_arg1)

/-- The queries: each head in a slot of 128 lanes. -/
theorem q_entry (c : Dev nD) (b : Fin 8) (s : Fin 2048) (x : Fin 1024) :
    (show FVec Ideal S8x2048x1024 .f32 from V m c main_v3) (ix3 b s x)
      = if h : x.val / 128 < 8 ∧ x.val % 128 < 64 then
          argA m c (ix3 b s ⟨x.val / 128 * 64 + x.val % 128, by omega⟩) else (0 : EReal) := by
  simp only [V, hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil,
    StableHlo.TRef.unary, StableHlo.TRef.binary, StableHlo.TRef.nullary, StableHlo.TRef.toBuf, StableHlo.TRef.ofBuf, cast_eq]
  after_results_simp
  pointwise
  refine dite_congr rfl (fun _ => rfl) (fun _ => ?_)
  exact sitofp_zero

/-- The padded k: 512 rows of zeros, the rows of the argument, 64 rows of zeros, each head in a slot of 128 lanes. -/
theorem k_entry (c : Dev nD) (b : Fin 8) (s : Fin 2624) (x : Fin 1024) (h : 512 ≤ s.val ∧ s.val - 512 < 2048) :
    (show FVec Ideal S8x2624x1024 .bf16 from V m c main_v13) (ix3 b s x)
      = if h_1 : x.val / 128 < 8 ∧ x.val % 128 < 64 then
          argA m c (ix3 b ⟨s.val - 512, h.2⟩ ⟨512 + (x.val / 128 * 64 + x.val % 128), by omega⟩) else (0 : EReal) := by
  simp only [V, hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil,
    StableHlo.TRef.unary, StableHlo.TRef.binary, StableHlo.TRef.nullary, StableHlo.TRef.toBuf, StableHlo.TRef.ofBuf, cast_eq]
  after_results_simp
  pointwise
  rw [dif_pos h]
  refine dite_congr rfl (fun _ => rfl) (fun _ => ?_)
  exact sitofp_zero

/-- The padded v: 512 rows of zeros, the rows of the argument, 64 rows of zeros, each head in a slot of 128 lanes. -/
theorem v_entry (c : Dev nD) (b : Fin 8) (s : Fin 2624) (x : Fin 1024) (h : 512 ≤ s.val ∧ s.val - 512 < 2048) :
    (show FVec Ideal S8x2624x1024 .bf16 from V m c main_v15) (ix3 b s x)
      = if h_1 : x.val / 128 < 8 ∧ x.val % 128 < 64 then
          argA m c (ix3 b ⟨s.val - 512, h.2⟩ ⟨1024 + (x.val / 128 * 64 + x.val % 128), by omega⟩) else (0 : EReal) := by
  simp only [V, hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil,
    StableHlo.TRef.unary, StableHlo.TRef.binary, StableHlo.TRef.nullary, StableHlo.TRef.toBuf, StableHlo.TRef.ofBuf, cast_eq]
  after_results_simp
  pointwise
  rw [dif_pos h]
  refine dite_congr rfl (fun _ => rfl) (fun _ => ?_)
  exact sitofp_zero

/-- A gather of columns of the bias table. -/
theorem table_at (x : FVec Ideal S8x257 .f32) (idx : IVec S640x1 32) (h : Fin 8) (l : Fin 640) :
    Host.gather gather_S8x257_S640x1_S8x640_0_1_n_n_1_1_81 x idx (ix2 h l)
      = x (ix2 h ⟨min (idx (ix2 l 0)).toInt.toNat 256, by omega⟩) := by
  unfold Host.gather
  refine congrArg x (funext fun a => Fin.ext ?_)
  match a with
  | ⟨0, _⟩ => exact (Nat.zero_add _).trans rfl
  | ⟨1, _⟩ =>
    have hsi : gather_S8x257_S640x1_S8x640_0_1_n_n_1_1_81.siIdx (ix2 h l) ⟨0, by decide⟩ = ix2 l 0 := by
      funext b; refine Fin.ext ?_
      match b with
      | ⟨0, _⟩ => rfl
      | ⟨1, _⟩ => rfl
    show _ = min (idx (ix2 l 0)).toInt.toNat 256
    rw [← hsi]
    rfl

/-- Which column of the bias table stands at lane `l` of the row that the kernel rotates. -/
abbrev tapLane (l : ℕ) : ℕ := if l ≤ 576 then min (640 - l) 256 else 256

/-- The table of bias entries the kernel gathers with. -/
theorem tap_lit : ∀ l : Fin 640, min (lit0 l).toInt.toNat 256 = tapLane l.val := by
  decide +kernel

/-- The bias of each lane before the rotation. -/
theorem g_entry (c : Dev nD) (h : Fin 8) (l : Fin 640) :
    (show FVec Ideal S8x640 .f32 from V m c main_v20) (ix2 h l)
      = argR m c (ix2 h ⟨tapLane l.val, by unfold tapLane; split <;> omega⟩) := by
  simp only [V, hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil,
    StableHlo.TRef.unary, StableHlo.TRef.binary, StableHlo.TRef.nullary, StableHlo.TRef.toBuf, StableHlo.TRef.ofBuf, cast_eq]
  after_results_simp
  refine (table_at _ _ h l).trans (congrArg (argR m c) (congrArg (ix2 h) (Fin.ext ?_)))
  refine Eq.trans ?_ (tap_lit l)
  refine congrArg (fun b : BitVec 32 => min b.toInt.toNat 256) ?_
  have hr : (S640.rowMajor (ix1 l)) = l := by
    exact Fin.ext (Shape.rowMajor_val_one _)
  refine Eq.trans ?_ (congrArg lit0 hr)
  pointwise
  trace_state

/-- A number that is neither infinity. -/
abbrev IsReal (x : EReal) : Prop := ∃ r : ℝ, x = (r : EReal)

/-- A product of numbers is a number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of two numbers is a number. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A finite sum of numbers is a number. -/
theorem IsReal.sum {ι : Type} (S : Finset ι) (f : ι → EReal) (h : ∀ i, IsReal (f i)) : IsReal (∑ i ∈ S, f i) := by
  classical
  induction S using Finset.induction_on with
  | empty => exact ⟨0, by simp⟩
  | insert i S hi ih => rw [Finset.sum_insert hi]; exact (h i).add ih

/-- One eighth is a number that is not negative. -/
theorem eighth_real : ∃ r : ℝ, 0 ≤ r ∧ eighth = (r : EReal) := by
  show ∃ r : ℝ, 0 ≤ r ∧ Ideal.ieee 8 23 1040187392#32 = (r : EReal)
  unfold Ideal.ieee
  have h1 : (BitVec.extractLsb' 23 8 1040187392#32).toNat = 124 := by decide
  have h2 : (BitVec.extractLsb' (8 + 23) 1 1040187392#32 == 1#1) = false := by decide
  simp only [h1, h2]
  refine ⟨((1:ℝ) * ((2 ^ 23 + (BitVec.extractLsb' 0 23 1040187392#32).toNat : ℕ) : ℝ) * 2 ^ ((124 : ℤ) - (2 ^ (8 - 1) - 1 : ℕ) - 23)), by positivity, ?_⟩
  simp

/-- Column `e` of head `h` in the part of the projection that starts at column `o`. -/
abbrev col (o : ℕ) (ho : o ≤ 1024) (h : Fin 8) (e : Fin 64) : Fin 1536 := ⟨o + (h.val * 64 + e.val), by omega⟩

/-- The row of key `x` of the window of chunk `c`; below 512 the window begins before the first row. -/
abbrev keyRow (c : Fin 32) (x : ℕ) : Fin 2048 := ⟨(c.val * 64 + x - 512) % 2048, Nat.mod_lt _ (by omega)⟩

/-- Row `r` of chunk `c`. -/
abbrev qRow (c : Fin 32) (r : Fin 64) : Fin 2048 := ⟨c.val * 64 + r.val, by omega⟩

/-- The score of key `x` of the window for query `r` of chunk `c`: the scaled product plus the bias of their distance,
    clipped to 128 either way; minus infinity for a key before the first row. -/
def score (a : FVec Ideal S8x2048x1536 .f32) (w : FVec Ideal S8x257 .f32) (b : Fin 8) (c : Fin 32) (h : Fin 8) (r : Fin 64) (x : Fin 576) : EReal :=
  if 512 ≤ x.val + 64 * c.val then
    (∑ e : Fin 64, a (ix3 b (qRow c r) (col 0 (by omega) h e)) * a (ix3 b (keyRow c x.val) (col 512 (by omega) h e))) * eighth
      + w (ix2 h ⟨min (640 + r.val - x.val) 256, by omega⟩)
  else ⊥

/-- The band attention: row `r` of chunk `c` in batch row `b`, lane `e` of head `h`. -/
def spec (a : FVec Ideal S8x2048x1536 .f32) (w : FVec Ideal S8x257 .f32) (b : Fin 8) (c : Fin 32) (h : Fin 8) (r : Fin 64) (e : Fin 64) : EReal :=
  weighted (score a w b c h r) (fun x : Fin 576 => a (ix3 b (keyRow c x.val) (col 1024 (by omega) h e)))

/-- The queries, the keys and the bias table hold numbers. -/
def Finite (a : FVec Ideal S8x2048x1536 .f32) (w : FVec Ideal S8x257 .f32) : Prop :=
  (∀ b s (x : Fin 1536), x.val < 1024 → IsReal (a (ix3 b s x))) ∧ ∀ h l, IsReal (w (ix2 h l))

/-- The score of a key that lies in the sequence is a number. -/
theorem score_real (a : FVec Ideal S8x2048x1536 .f32) (w : FVec Ideal S8x257 .f32) (hf : Finite a w) (b : Fin 8) (c : Fin 32) (h : Fin 8) (r : Fin 64)
    (x : Fin 576) (hx : 512 ≤ x.val + 64 * c.val) : IsReal (score a w b c h r x) := by
  unfold score
  rw [if_pos hx]
  obtain ⟨q, _, hq⟩ := eighth_real
  refine ((IsReal.sum _ _ fun e => (hf.1 _ _ _ ?_).mul (hf.1 _ _ _ ?_)).mul ⟨q, hq⟩).add (hf.2 _ _)
  · show 0 + (h.val * 64 + e.val) < 1024; omega
  · show 512 + (h.val * 64 + e.val) < 1024; omega

/-- No score is plus infinity. -/
theorem score_ne_top (a : FVec Ideal S8x2048x1536 .f32) (w : FVec Ideal S8x257 .f32) (hf : Finite a w) (b : Fin 8) (c : Fin 32) (h : Fin 8) (r : Fin 64)
    (x : Fin 576) : score a w b c h r x ≠ ⊤ := by
  by_cases hx : 512 ≤ x.val + 64 * c.val
  · obtain ⟨s, hs⟩ := score_real a w hf b c h r x hx
    rw [hs]; exact EReal.coe_ne_top s
  · unfold score; rw [if_neg hx]; exact bot_ne_top

/-- Some key of every window lies in the sequence: the query's own chunk. -/
theorem score_some (a : FVec Ideal S8x2048x1536 .f32) (w : FVec Ideal S8x257 .f32) (hf : Finite a w) (b : Fin 8) (c : Fin 32) (h : Fin 8) (r : Fin 64) :
    ∃ x, score a w b c h r x ≠ ⊥ := by
  obtain ⟨s, hs⟩ := score_real a w hf b c h r ⟨512, by omega⟩ (show 512 ≤ 512 + 64 * c.val by omega)
  exact ⟨_, by rw [hs]; exact EReal.coe_ne_bot s⟩

/-- The query block, read from the padded queries. -/
theorem q_at (c : Dev nD) (t : Fin cfg0.N) (r : Fin 64) (x : Fin 1024) (b : Fin 8) (hb : b.val = t.val / 32) (s : Fin 2048)
    (hs : s.val = t.val % 32 * 64 + (r : ℕ)) :
    (show FVec Ideal S1x64x1024 .f32 from iblk m c 0 t) (ix3 0 r x) = (show FVec Ideal S8x2048x1024 .f32 from V m c main_v3) (ix3 b s x) := by
  have : iblk m c 0 t (ix3 0 r x) = V m c main_v3 (ix3 b s x) := by blk_ext [iblk, idx t]
  exact this

/-- The key block, read from the padded keys. -/
theorem k_at (c : Dev nD) (t : Fin cfg0.N) (z : Fin 2624) (x : Fin 1024) (b : Fin 8) (hb : b.val = t.val / 32) :
    (show FVec Ideal S1x2624x1024 .bf16 from iblk m c 1 t) (ix3 0 z x) = (show FVec Ideal S8x2624x1024 .bf16 from V m c main_v13) (ix3 b z x) := by
  have : iblk m c 1 t (ix3 0 z x) = V m c main_v13 (ix3 b z x) := by blk_ext [iblk, idx t]
  exact this

/-- The value block, read from the padded values. -/
theorem v_at (c : Dev nD) (t : Fin cfg0.N) (z : Fin 2624) (x : Fin 1024) (b : Fin 8) (hb : b.val = t.val / 32) :
    (show FVec Ideal S1x2624x1024 .bf16 from iblk m c 2 t) (ix3 0 z x) = (show FVec Ideal S8x2624x1024 .bf16 from V m c main_v15) (ix3 b z x) := by
  have : iblk m c 2 t (ix3 0 z x) = V m c main_v15 (ix3 b z x) := by blk_ext [iblk, idx t]
  exact this

/-- The bias block is the whole bias array. -/
theorem g_at (c : Dev nD) (t : Fin cfg0.N) (h : Fin 8) (l : Fin 640) :
    (show FVec Ideal S8x640 .f32 from iblk m c 3 t) (ix2 h l) = (show FVec Ideal S8x640 .f32 from V m c main_v20) (ix2 h l) := by
  have : iblk m c 3 t (ix2 h l) = V m c main_v20 (ix2 h l) := by blk_ext [iblk, idx t]
  exact this

/-- The kernel's score of a key of the band is `score`. -/
theorem score_at (c : Dev nD) (t : Fin cfg0.N) (b : Fin 8) (hb : b.val = t.val / 32) (cc : Fin 32) (hc : cc.val = t.val % 32)
    (h : Fin 8) (r : Fin 64) (x : Fin 576) :
    (if x.val < 576 ∧ 512 ≤ x.val + 64 * cc.val then
      (∑ y : Fin 128, (show FVec Ideal S1x64x1024 .f32 from iblk m c 0 t) (ix3 0 r (slot h y)) * eighth
          * (show FVec Ideal S1x2624x1024 .bf16 from iblk m c 1 t) (ix3 0 (key cc ⟨x.val, by omega⟩) (slot h y)))
        + lane (fun l => (show FVec Ideal S8x640 .f32 from iblk m c 3 t) (ix2 h l)) (x.val + 640 - r.val) else ⊥)
      = score (argA m c) (argR m c) b cc h r x := by
  unfold score
  by_cases hx : 512 ≤ x.val + 64 * cc.val
  · rw [if_pos ⟨x.isLt, hx⟩, if_pos hx]
    refine congrArg₂ (· + ·) ?_ ?_
    · obtain ⟨q, hq0, hq⟩ := eighth_real
      rw [sum_mul_real _ _ eighth (by rw [hq]; exact_mod_cast hq0) (by rw [hq]; exact EReal.coe_ne_top _)]
      have hr : 512 ≤ (key cc ⟨x.val, by omega⟩).val ∧ (key cc ⟨x.val, by omega⟩).val - 512 < 2048 := by
        show 512 ≤ cc.val * 64 + x.val ∧ cc.val * 64 + x.val - 512 < 2048; omega
      refine sum_half _ _ (fun e => ?_) (fun y hy => ?_)
      · rw [q_at m c t r _ b hb (qRow cc r) (by show cc.val * 64 + r.val = _; rw [hc]), k_at m c t _ _ b hb, q_entry, k_entry m c b _ _ hr]
        have hh : (slot h ⟨e.val, by omega⟩).val / 128 < 8 ∧ (slot h ⟨e.val, by omega⟩).val % 128 < 64 := by
          show (h.val * 128 + e.val) / 128 < 8 ∧ (h.val * 128 + e.val) % 128 < 64; omega
        rw [dif_pos hh, dif_pos hh, mul_right_comm]
        refine congrArg (· * eighth) (congrArg₂ (· * ·) (congrArg (argA m c) (congrArg (ix3 b _) (Fin.ext ?_)))
          (congrArg (argA m c) (congrArg₂ (ix3 b) (Fin.ext ?_) (Fin.ext ?_))))
        · show (h.val * 128 + e.val) / 128 * 64 + (h.val * 128 + e.val) % 128 = 0 + (h.val * 64 + e.val); omega
        · show cc.val * 64 + x.val - 512 = (cc.val * 64 + x.val - 512) % 2048; omega
        · show 512 + ((h.val * 128 + e.val) / 128 * 64 + (h.val * 128 + e.val) % 128) = 512 + (h.val * 64 + e.val); omega
      · rw [q_at m c t r _ b hb (qRow cc r) (by show cc.val * 64 + r.val = _; rw [hc]), q_entry,
          dif_neg (by show ¬((h.val * 128 + y.val) / 128 < 8 ∧ (h.val * 128 + y.val) % 128 < 64); omega), zero_mul, zero_mul]
    · refine (g_at m c t h _).trans ((g_entry m c h _).trans (congrArg (argR m c) (congrArg (ix2 h) (Fin.ext ?_))))
      show tapLane ((x.val + 640 - r.val) % 640) = min (640 + r.val - x.val) 256
      unfold tapLane
      split <;> omega
  · rw [if_neg (fun h => hx h.2), if_neg hx]

/-- One block's result is the band attention of the arrays, and zero in the last 64 lanes of each head's slot. -/
theorem block_at (c : Dev nD) (t : Fin cfg0.N) (hf : Finite (argA m c) (argR m c)) (b : Fin 8) (hb : b.val = t.val / 32) (cc : Fin 32) (hc : cc.val = t.val % 32)
    (h : Fin 8) (r : Fin 64) (l : Fin 128) :
    blockOut cc (iblk m c 0 t) (iblk m c 1 t) (iblk m c 2 t) (iblk m c 3 t) h r l
      = if hl : l.val < 64 then spec (argA m c) (argR m c) b cc h r ⟨l.val, hl⟩ else 0 := by
  have hv : ∀ (x : Fin 576) (hx : 512 ≤ x.val + 64 * cc.val), (show FVec Ideal S1x2624x1024 .bf16 from iblk m c 2 t) (ix3 0 (key cc ⟨x.val, by omega⟩) (slot h l))
      = if hl : l.val < 64 then argA m c (ix3 b (keyRow cc x.val) (col 1024 (by omega) h ⟨l.val, hl⟩)) else 0 := by
    intro x hx
    have hr : 512 ≤ (key cc ⟨x.val, by omega⟩).val ∧ (key cc ⟨x.val, by omega⟩).val - 512 < 2048 := by
      show 512 ≤ cc.val * 64 + x.val ∧ cc.val * 64 + x.val - 512 < 2048; omega
    rw [v_at m c t _ _ b hb, v_entry m c b _ _ hr]
    by_cases hl : l.val < 64
    · rw [dif_pos hl, dif_pos (by show (h.val * 128 + l.val) / 128 < 8 ∧ (h.val * 128 + l.val) % 128 < 64; omega)]
      refine congrArg (argA m c) (congrArg₂ (ix3 b) (Fin.ext ?_) (Fin.ext ?_))
      · show cc.val * 64 + x.val - 512 = (cc.val * 64 + x.val - 512) % 2048; omega
      · show 1024 + ((h.val * 128 + l.val) / 128 * 64 + (h.val * 128 + l.val) % 128) = 1024 + (h.val * 64 + l.val); omega
    · rw [dif_neg hl, dif_neg (by show ¬((h.val * 128 + l.val) / 128 < 8 ∧ (h.val * 128 + l.val) % 128 < 64); omega)]
  have e : blockOut cc (iblk m c 0 t) (iblk m c 1 t) (iblk m c 2 t) (iblk m c 3 t) h r l
      = soft (score (argA m c) (argR m c) b cc h r)
        (fun x : Fin 576 => if hl : l.val < 64 then argA m c (ix3 b (keyRow cc x.val) (col 1024 (by omega) h ⟨l.val, hl⟩)) else 0) := by
    unfold blockOut
    refine soft_window (n := 576) (k := 64) _ _ _ _ (fun x => score_at m c t b hb cc hc h r x) (fun x => ?_) (fun x hs => hv x ?_)
    · exact if_neg (fun h => absurd h.1 (by show ¬ 576 + x.val < 576; omega))
    · by_contra hx
      exact hs (by unfold score; rw [if_neg hx])
  rw [e]
  by_cases hl : l.val < 64
  · simp only [dif_pos hl]
    exact soft_eq_weighted _ _ (score_ne_top _ _ hf b cc h r) (score_some _ _ hf b cc h r)
  · simp only [dif_neg hl]
    exact soft_zero _ _ (fun _ => rfl) (score_ne_top _ _ hf b cc h r) (score_some _ _ hf b cc h r)

/-- The whole result at one index, from the argument arrays. -/
def result (a : FVec Ideal S8x2048x1536 .f32) (w : FVec Ideal S8x257 .f32) (b : Fin 8) (s : Fin 2048) (x : Fin 1024) : EReal :=
  if hl : x.val % 128 < 64 then
    spec a w b ⟨s.val / 64, by omega⟩ ⟨x.val / 128, by omega⟩ ⟨s.val % 64, by omega⟩ ⟨x.val % 128, hl⟩ else 0

/-- One grid point's block, at the indices the block covers in the result. -/
theorem block_eq (c : Dev nD) (t : Fin cfg0.N) (hf : Finite (argA m c) (argR m c)) (y : S1x64x1024.Idx) (b : Fin 8) (s : Fin 2048) (x : Fin 1024)
    (eb : b.val = t.val / 32 * 1 + (y 0 : ℕ)) (es : s.val = t.val % 32 * 64 + (y 1 : ℕ)) (ex : x.val = (y 2 : ℕ)) :
    (outsAt0 m c t.val t.isLt).1 y = result (argA m c) (argR m c) b s x := by
  have hy0 : (y 0 : ℕ) < 1 := (y 0).isLt
  have hy1 : (y 1 : ℕ) < 64 := (y 1).isLt
  rw [out_at]
  have hc : (grid0.coords t 1).val = t.val % 32 := coord t
  refine (block_at m c t hf b (by omega) (grid0.coords t 1) hc _ _ _).trans ?_
  unfold result
  have e1 : (grid0.coords t 1 : Fin 32) = ⟨s.val / 64, by omega⟩ := Fin.ext (by show (grid0.coords t 1).val = s.val / 64; omega)
  have e2 : (y 1 : Fin 64) = ⟨s.val % 64, by omega⟩ := Fin.ext (by show (y 1 : ℕ) = s.val % 64; omega)
  have e3 : (⟨(y 2).val / 128, Nat.div_lt_of_lt_mul (y 2).isLt⟩ : Fin 8) = ⟨x.val / 128, by omega⟩ := Fin.ext (by show (y 2).val / 128 = x.val / 128; omega)
  rw [e3]
  refine (congrArg₂ (fun (u : Fin 32) (v : Fin 64) => if hl : (y 2).val % 128 < 64 then
    spec (argA m c) (argR m c) b u ⟨x.val / 128, by omega⟩ v ⟨(y 2).val % 128, hl⟩ else 0) e1 e2).trans ?_
  have e4 : (y 2).val = x.val := ex.symm
  rw [e4]
  rfl

/-- The program's result array, where the queries, the keys and the biases are numbers. -/
theorem final (c : Dev nD) (hf : Finite (argA m c) (argR m c)) : (dats m 0 c).arrAt 4 cfg0.N
    = fun j : S8x2048x1024.Idx => result (argA m c) (argR m c) (j 0) (j 1) (j 2) := by
  refine (dats m 0 c).arrAt_eq_of_covers 4 _ (by decide +kernel) fun t _ y => ?_
  blk_simp
  rw [after0_4]
  refine block_eq m c t hf y _ _ _ ?_ ?_ ?_
  · blk_simp [idx t]
  · blk_simp [idx t]
  · blk_simp [idx t]

end Cert.BandIdeal.Maths

end
-- ==== Proof.BandRefValue.lean ====
module

public import proofs.«01_k».proof.Proof.BandValue
public import proofs.«01_k».proof.Proof.Gen.BandRefIdeal.Run
public import proofs.«01_k».proof.Proof.Common
public import proofs.«01_k».proof.Proof.Softmax
public import proofs.«01_k».proof.Pre_finite_scores
public import Idealize.ShloMosaic.Lib.Pointwise
public import Idealize.ShloMosaic.Lib.ReduceAll

@[expose] public section

set_option maxRecDepth 16384

noncomputable section

namespace Cert.BandRefIdeal.Maths

open Idealize.ShloMosaic Idealize.ShloMosaic.TcCoe Idealize.SL.Sem
open Cert.BandRefIdeal Cert.BandRefIdeal.Gen
open Cert.Common

open Cert.BandIdeal.Maths (neg_inf select_if)

/-- The window gather, read at an index. -/
theorem window_at (x : FVec Ideal S8x2560x8x64 .f32) (idx : IVec S32x576x1 32) (b : Fin 8) (c : Fin 32) (j : Fin 576)
    (h : Fin 8) (e : Fin 64) :
    Host.gather gather_S8x2560x8x64_S32x576x1_S8x32x576x8x64_034_1_n_n_1_2_81864 x idx (ix5 b c j h e)
      = x (ix4 b ⟨min (idx (ix3 c j 0)).toInt.toNat 2559, by omega⟩ h e) := by
  unfold Host.gather
  refine congrArg x (funext fun a => Fin.ext ?_)
  match a with
  | ⟨0, _⟩ => exact (Nat.zero_add _).trans rfl
  | ⟨1, _⟩ =>
    have hsi : gather_S8x2560x8x64_S32x576x1_S8x32x576x8x64_034_1_n_n_1_2_81864.siIdx (ix5 b c j h e) ⟨0, by decide⟩ = ix3 c j 0 := by
      funext b; refine Fin.ext ?_
      match b with
      | ⟨0, _⟩ => rfl
      | ⟨1, _⟩ => rfl
      | ⟨2, _⟩ => rfl
    show _ = min (idx (ix3 c j 0)).toInt.toNat 2559
    rw [← hsi]
    rfl
  | ⟨2, _⟩ => exact (Nat.zero_add _).trans rfl
  | ⟨3, _⟩ => exact (Nat.zero_add _).trans rfl

/-- The bias gather, read at an index. -/
theorem table_at (x : FVec Ideal S8x257 .f32) (idx : IVec S64x576x1 32) (h : Fin 8) (r : Fin 64) (j : Fin 576) :
    Host.gather gather_S8x257_S64x576x1_S8x64x576_0_1_n_n_1_2_81 x idx (ix3 h r j)
      = x (ix2 h ⟨min (idx (ix3 r j 0)).toInt.toNat 256, by omega⟩) := by
  unfold Host.gather
  refine congrArg x (funext fun a => Fin.ext ?_)
  match a with
  | ⟨0, _⟩ => exact (Nat.zero_add _).trans rfl
  | ⟨1, _⟩ =>
    have hsi : gather_S8x257_S64x576x1_S8x64x576_0_1_n_n_1_2_81.siIdx (ix3 h r j) ⟨0, by decide⟩ = ix3 r j 0 := by
      funext b; refine Fin.ext ?_
      match b with
      | ⟨0, _⟩ => rfl
      | ⟨1, _⟩ => rfl
      | ⟨2, _⟩ => rfl
    show _ = min (idx (ix3 r j 0)).toInt.toNat 256
    rw [← hsi]
    rfl

/-- The position, among the padded rows, of each key of each chunk's window. -/
def pos : IVec S32x576 32 := addi (broadcastInDim S32x576 ![0, 1] bcast_S32x1_S32x576_0_1 (broadcastInDim S32x1 ![0] bcast_S32_S32x1_0 (muli (iotaInDim S32 32 0) (broadcastInDim S32 ![] bcast_S_S32 (constantI S_ 32 64#32))))) (broadcastInDim S32x576 ![0, 1] bcast_S1x576_S32x576_0_1 (broadcastInDim S1x576 ![1] bcast_S576_S1x576_1 (iotaInDim S576 32 0)))

/-- The positions as the gather takes them. -/
def rows : IVec S32x576x1 32 := broadcastInDim S32x576x1 ![0, 1] bcast_S32x576_S32x576x1_0_1 (select (cmpi .slt pos (broadcastInDim S32x576 ![] bcast_S_S32x576 (constantI S_ 32 0#32))) (addi pos (broadcastInDim S32x576 ![] bcast_S_S32x576 (constantI S_ 32 2560#32))) pos)

/-- The keys after 512 rows of zeros. -/
def paddedK (a : FVec Ideal S8x2048x1536 .f32) : FVec Ideal S8x2560x8x64 .f32 := pad S8x2560x8x64 ![0, 512, 0, 0] ![0, 0, 0, 0] ![0, 0, 0, 0] (shapeCast S8x2048x8x64 (extractStridedSlice S8x2048x512 ![0, 0, 512] a slices_S8x2048x1536_S8x2048x512_0_0_512) shapeCasts_S8x2048x512_S8x2048x8x64) (sitofp .f32 (constantI S_ 32 0#32)) pads_S8x2048x8x64_S8x2560x8x64_000_51200_000_000 h_S_

/-- The values after 512 rows of zeros. -/
def paddedV (a : FVec Ideal S8x2048x1536 .f32) : FVec Ideal S8x2560x8x64 .f32 := pad S8x2560x8x64 ![0, 512, 0, 0] ![0, 0, 0, 0] ![0, 0, 0, 0] (shapeCast S8x2048x8x64 (extractStridedSlice S8x2048x512 ![0, 0, 1024] a slices_S8x2048x1536_S8x2048x512_0_0_1024) shapeCasts_S8x2048x512_S8x2048x8x64) (sitofp .f32 (constantI S_ 32 0#32)) pads_S8x2048x8x64_S8x2560x8x64_000_51200_000_000 h_S_

/-- The windows of keys. -/
def keys (a : FVec Ideal S8x2048x1536 .f32) : FVec Ideal S8x32x576x8x64 .f32 := Host.gather gather_S8x2560x8x64_S32x576x1_S8x32x576x8x64_034_1_n_n_1_2_81864 (paddedK a) rows

/-- The windows of values. -/
def values (a : FVec Ideal S8x2048x1536 .f32) : FVec Ideal S8x32x576x8x64 .f32 := Host.gather gather_S8x2560x8x64_S32x576x1_S8x32x576x8x64_034_1_n_n_1_2_81864 (paddedV a) rows

/-- The distance of each query from each key of its window. -/
def distance : IVec S64x576 32 := subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))

/-- The clipped distances, counted from zero. -/
def clipped : IVec S64x576 32 := addi (minsi (broadcastInDim S64x576 ![] bcast_S_S64x576 (id (constantI S_ 32 128#32))) (maxsi (broadcastInDim S64x576 ![] bcast_S_S64x576 (id (constantI S_ 32 4294967168#32))) distance)) (broadcastInDim S64x576 ![] bcast_S_S64x576 (constantI S_ 32 128#32))

/-- The clipped distances as the gather takes them. -/
def taps : IVec S64x576x1 32 := broadcastInDim S64x576x1 ![0, 1] bcast_S64x576_S64x576x1_0_1 (select (cmpi .slt clipped (broadcastInDim S64x576 ![] bcast_S_S64x576 (constantI S_ 32 0#32))) (addi clipped (broadcastInDim S64x576 ![] bcast_S_S64x576 (constantI S_ 32 257#32))) clipped)

/-- The bias of each query and key. -/
def biases (w : FVec Ideal S8x257 .f32) : FVec Ideal S8x64x576 .f32 := Host.gather gather_S8x257_S64x576x1_S8x64x576_0_1_n_n_1_2_81 w taps

/-- The scores. -/
def scores (a : FVec Ideal S8x2048x1536 .f32) (w : FVec Ideal S8x257 .f32) : FVec Ideal S8x32x8x64x576 .f32 := select (broadcastInDim S8x32x8x64x576 ![0, 1, 2, 3, 4] bcast_S1x32x1x1x576_S8x32x8x64x576_0_1_2_3_4 (broadcastInDim S1x32x1x1x576 ![1, 4] bcast_S32x576_S1x32x1x1x576_1_4 (cmpi .sge pos (broadcastInDim S32x576 ![] bcast_S_S32x576 (constantI S_ 32 512#32))))) (addf (mulf (Host.dotGeneral dot_S8x32x64x8x64_S8x32x576x8x64_S8x32x8x64x576_4_4_2_2_013_013 none (shapeCast S8x32x64x8x64 (shapeCast S8x2048x8x64 (extractStridedSlice S8x2048x512 ![0, 0, 0] a slices_S8x2048x1536_S8x2048x512_0_0_0) shapeCasts_S8x2048x512_S8x2048x8x64) shapeCasts_S8x2048x8x64_S8x32x64x8x64) (keys a)) (broadcastInDim S8x32x8x64x576 ![] bcast_S_S8x32x8x64x576 (constant S_ .f32 0x3E000000#32))) (broadcastInDim S8x32x8x64x576 ![0, 1, 2, 3, 4] bcast_S1x1x8x64x576_S8x32x8x64x576_0_1_2_3_4 (broadcastInDim S1x1x8x64x576 ![2, 3, 4] bcast_S8x64x576_S1x1x8x64x576_2_3_4 (biases w)))) (broadcastInDim S8x32x8x64x576 ![] bcast_S_S8x32x8x64x576 (id (constant S_ .f32 0xFF800000#32)))

/-- The largest score of each query. -/
def largest (sc : FVec Ideal S8x32x8x64x576 .f32) : FVec Ideal S8x32x8x64 .f32 := maximumf (broadcastInDim S8x32x8x64 ![] bcast_S_S8x32x8x64 (constant S_ .f32 0xFF800000#32)) (Host.reduce FloatOps.maximumf sc (constant S_ .f32 0xFF800000#32) reducesTo_S8x32x8x64x576_S8x32x8x64_d4 h_S_)

/-- The exponentials of the scores less the largest. -/
def powers (sc : FVec Ideal S8x32x8x64x576 .f32) (mx : FVec Ideal S8x32x8x64 .f32) : FVec Ideal S8x32x8x64x576 .f32 := Host.exp (subf sc (broadcastInDim S8x32x8x64x576 ![0, 1, 2, 3, 4] bcast_S8x32x8x64x1_S8x32x8x64x576_0_1_2_3_4 (broadcastInDim S8x32x8x64x1 ![0, 1, 2, 3] bcast_S8x32x8x64_S8x32x8x64x1_0_1_2_3 mx)))

/-- Their sums. -/
def sums (ex : FVec Ideal S8x32x8x64x576 .f32) : FVec Ideal S8x32x8x64 .f32 := Host.reduceAdd ex (constant S_ .f32 0x00000000#32) reducesTo_S8x32x8x64x576_S8x32x8x64_d4 h_S_

/-- Their quotients by the sums. -/
def quotients (ex : FVec Ideal S8x32x8x64x576 .f32) (dn : FVec Ideal S8x32x8x64 .f32) : FVec Ideal S8x32x8x64x576 .f32 := Host.divf ex (broadcastInDim S8x32x8x64x576 ![0, 1, 2, 3, 4] bcast_S8x32x8x64x1_S8x32x8x64x576_0_1_2_3_4 (broadcastInDim S8x32x8x64x1 ![0, 1, 2, 3] bcast_S8x32x8x64_S8x32x8x64x1_0_1_2_3 dn))

/-- The softmax of the scores. -/
def probs (sc : FVec Ideal S8x32x8x64x576 .f32) : FVec Ideal S8x32x8x64x576 .f32 :=
  quotients (powers sc (largest sc)) (sums (powers sc (largest sc)))

/-- The weighted values, each head in a slot of 128 lanes. -/
def mixed (vw : FVec Ideal S8x32x576x8x64 .f32) (pr : FVec Ideal S8x32x8x64x576 .f32) : FVec Ideal S8x2048x1024 .bf16 := truncf .bf16 (shapeCast S8x2048x1024 (pad S8x2048x8x128 ![0, 0, 0, 0] ![0, 0, 0, 64] ![0, 0, 0, 0] (shapeCast S8x2048x8x64 (transpose S8x32x64x8x64 [0, 1, 4, 2, 3] (Host.dotGeneral dot_S8x32x576x8x64_S8x32x8x64x576_S8x32x8x64x64_2_4_4_3_013_012 none vw pr) transposes_S8x32x8x64x64_S8x32x64x8x64_0_1_4_2_3) shapeCasts_S8x32x64x8x64_S8x2048x8x64) (sitofp .f32 (constantI S_ 32 0#32)) pads_S8x2048x8x64_S8x2048x8x128_000_000_000_0640 h_S_) shapeCasts_S8x2048x8x128_S8x2048x1024) bitsLt_bf16_f32

variable (m : (ℓ : Loc nD τ sig) → Buf (Elt Ideal) ℓ)

/-- The reference's result, in the pieces named above. -/
theorem result_eq (c : Dev nD) : Cert.BandRefIdeal.Value.res_main_v77 m c
    = mixed (values (m ((c.tc : Thread nD τ).loc main_arg0))) (probs (scores (m ((c.tc : Thread nD τ).loc main_arg0)) (m ((c.tc : Thread nD τ).loc main_arg1)))) := rfl

/-- The largest of a row of an array of rank five, starting from minus infinity. -/
theorem reduce_max_last {n0 n1 n2 n3 n4 : ℕ} (x : FVec Ideal ⟨5, ![n0, n1, n2, n3, n4]⟩ .f32) (v : FVec Ideal ⟨0, ![]⟩ .f32) (hv : ∀ i, v i = (⊥ : EReal))
    (h : (⟨5, ![n0, n1, n2, n3, n4]⟩ : Shape).ReducesTo [4] ⟨4, ![n0, n1, n2, n3]⟩) (hu : 0 < (⟨0, ![]⟩ : Shape).numel)
    (b : Fin n0) (c : Fin n1) (d : Fin n2) (e : Fin n3) :
    Host.reduce (FloatOps.maximumf (F := Ideal) (φ := .f32)) x v h hu (ix4 b c d e)
      = Finset.fold max (⊥ : EReal) (fun k : Fin n4 => (x (ix5 b c d e k) : EReal)) Finset.univ := by
  rw [Host.reduce_eq_fold, Shape.ReducesTo.fold_fiber_r5_a4, hv]
  rfl

/-- The larger of two arrays, read at an index. -/
theorem maximumf_at {s : Shape} (x y : FVec Ideal s .f32) (j : s.Idx) : maximumf x y j = max (x j : EReal) (y j) := rfl

/-- The largest score of a query. -/
theorem largest_at (sc : FVec Ideal S8x32x8x64x576 .f32) (b : Fin 8) (c : Fin 32) (h : Fin 8) (r : Fin 64) :
    largest sc (ix4 b c h r) = Finset.fold max ⊥ (fun x : Fin 576 => sc (ix5 b c h r x)) Finset.univ := by
  unfold largest
  rw [maximumf_at, reduce_max_last sc (constant S_ .f32 0xFF800000#32) (fun i => neg_inf)]
  have e3 : (broadcastInDim S8x32x8x64 ![] bcast_S_S8x32x8x64 (constant (F := Ideal) S_ .f32 0xFF800000#32) (ix4 b c h r)) = (⊥ : EReal) := neg_inf
  rw [e3]
  exact max_eq_right bot_le

/-- One exponential. -/
theorem powers_at (sc : FVec Ideal S8x32x8x64x576 .f32) (mx : FVec Ideal S8x32x8x64 .f32) (b : Fin 8) (c : Fin 32) (h : Fin 8) (r : Fin 64) (x : Fin 576) :
    powers sc mx (ix5 b c h r x) = Ideal.exp (sc (ix5 b c h r x) - mx (ix4 b c h r)) := by
  pointwise [powers]

/-- One sum of exponentials. -/
theorem sums_at (ex : FVec Ideal S8x32x8x64x576 .f32) (b : Fin 8) (c : Fin 32) (h : Fin 8) (r : Fin 64) :
    sums ex (ix4 b c h r) = ∑ x : Fin 576, ex (ix5 b c h r x) := by
  pointwise [sums]

/-- One quotient. -/
theorem quotients_at (ex : FVec Ideal S8x32x8x64x576 .f32) (dn : FVec Ideal S8x32x8x64 .f32) (b : Fin 8) (c : Fin 32) (h : Fin 8) (r : Fin 64) (x : Fin 576) :
    quotients ex dn (ix5 b c h r x) = Ideal.div (ex (ix5 b c h r x)) (dn (ix4 b c h r)) := by
  pointwise [quotients]

/-- One entry of the weighted values: lanes 64 to 127 of a slot are zero. -/
theorem mixed_at (vw : FVec Ideal S8x32x576x8x64 .f32) (pr : FVec Ideal S8x32x8x64x576 .f32) (b : Fin 8) (s : Fin 2048) (l : Fin 1024) :
    mixed vw pr (ix3 b s l) = if h : l.val % 128 < 64 then
      ∑ x : Fin 576, vw (ix5 b ⟨s.val / 64, by omega⟩ x ⟨l.val / 128, by omega⟩ ⟨l.val % 128, h⟩)
        * pr (ix5 b ⟨s.val / 64, by omega⟩ ⟨l.val / 128, by omega⟩ ⟨s.val % 64, by omega⟩ x) else 0 := by
  pointwise [mixed]
  exact dite_congr (propext ⟨And.right, fun h => ⟨by omega, h⟩⟩) (fun _ => rfl) (fun _ => sitofp_zero)

/-- The result, when the scores are `s` and the values `v`. -/
theorem soft_at (sc : FVec Ideal S8x32x8x64x576 .f32) (vw : FVec Ideal S8x32x576x8x64 .f32) (b : Fin 8) (s : Fin 2048) (l : Fin 1024)
    (h : l.val % 128 < 64) :
    mixed vw (probs sc) (ix3 b s l) = weighted (fun x : Fin 576 => sc (ix5 b ⟨s.val / 64, by omega⟩ ⟨l.val / 128, by omega⟩ ⟨s.val % 64, by omega⟩ x))
      (fun x => vw (ix5 b ⟨s.val / 64, by omega⟩ x ⟨l.val / 128, by omega⟩ ⟨l.val % 128, h⟩)) := by
  rw [mixed_at, dif_pos h]
  unfold weighted probs
  simp only [quotients_at, sums_at, powers_at, largest_at]
  exact Finset.sum_congr rfl fun x _ => mul_comm _ _

/-- The position of a key, as a natural number. -/
theorem pos_at (c : Fin 32) (x : Fin 576) : (pos (ix2 c x)).toNat = c.val * 64 + x.val := by
  pointwise [pos]
  show (BitVec.ofNat 32 c.val * 64#32 + BitVec.ofNat 32 x.val).toNat = _
  simp only [BitVec.toNat_add, BitVec.toNat_mul, BitVec.toNat_ofNat]
  omega

/-- The position of a key, as an integer. -/
theorem pos_toInt (c : Fin 32) (x : Fin 576) : (pos (ix2 c x)).toInt = ((c.val * 64 + x.val : ℕ) : ℤ) := by
  have e := pos_at c x
  rw [BitVec.toInt_eq_toNat_of_lt (by rw [e]; omega), e]

/-- An index that is not negative is not wrapped. -/
theorem wrap_word (p n : BitVec 32) (h : 0 ≤ p.toInt) : Scalar.select (IntOp.cmpi .slt p 0#32) (IntOp.addi p n) p = p := by
  have n : IntOp.cmpi .slt p 0#32 = 0#1 := by
    show BitVec.ofBool (p.slt 0#32) = 0#1
    have : p.slt 0#32 = false := by
      rw [BitVec.slt]; exact decide_eq_false (by show ¬ (p.toInt < 0); omega)
    rw [this]; rfl
  rw [n]
  rfl

/-- The row the window gather takes. -/
theorem rows_at (c : Fin 32) (x : Fin 576) : (rows (ix3 c x 0)).toInt = ((c.val * 64 + x.val : ℕ) : ℤ) := by
  have e : rows (ix3 c x 0) = Scalar.select (IntOp.cmpi .slt (pos (ix2 c x)) 0#32) (IntOp.addi (pos (ix2 c x)) 2560#32) (pos (ix2 c x)) := by
    pointwise [rows]
  rw [e, wrap_word _ _ (by rw [pos_toInt]; omega), pos_toInt]

/-- A key is valid where its position is past the padding. -/
theorem valid_at (c : Fin 32) (x : Fin 576) : IntOp.cmpi .sge (pos (ix2 c x)) 512#32 = if 512 ≤ x.val + 64 * c.val then 1#1 else 0#1 := by
  show BitVec.ofBool ((512#32).sle (pos (ix2 c x))) = _
  have : (512#32).sle (pos (ix2 c x)) = decide (512 ≤ x.val + 64 * c.val) := by
    rw [BitVec.sle, pos_toInt]
    exact decide_eq_decide.2 (by show (512 : ℤ) ≤ ((c.val * 64 + x.val : ℕ) : ℤ) ↔ _; omega)
  rw [this]
  by_cases h : 512 ≤ x.val + 64 * c.val
  · rw [if_pos h, decide_eq_true h]; rfl
  · rw [if_neg h, decide_eq_false h]; rfl

/-- The distance, as an integer. -/
theorem distance_at (r : Fin 64) (x : Fin 576) : (distance (ix2 r x)).toInt = ((r.val : ℤ) + 512 - x.val) := by
  have e : distance (ix2 r x) = IntOp.subi (IntOp.addi (BitVec.ofNat 32 r.val) 512#32) (BitVec.ofNat 32 x.val) := by
    pointwise [distance]
  rw [e]
  show (BitVec.ofNat 32 r.val + 512#32 - BitVec.ofNat 32 x.val).toInt = _
  rw [BitVec.toInt_eq_toNat_cond]
  simp only [BitVec.toNat_sub, BitVec.toNat_add, BitVec.toNat_ofNat]
  split <;> omega

/-- Clipping a word to 128 either way and adding 128. -/
theorem clip_word (d : BitVec 32) (h : -1000 ≤ d.toInt ∧ d.toInt ≤ 1000) :
    (IntOp.addi (IntOp.minsi 128#32 (IntOp.maxsi 4294967168#32 d)) 128#32).toInt = min (max d.toInt (-128)) 128 + 128 := by
  have c1 : (4294967168#32 : BitVec 32).toInt = -128 := by decide
  have c2 : (128#32 : BitVec 32).toInt = 128 := by decide
  have hm : (IntOp.maxsi 4294967168#32 d).toInt = max d.toInt (-128) := by
    unfold IntOp.maxsi
    rw [BitVec.slt, c1]
    by_cases hd : d.toInt < -128
    · rw [if_pos (by simpa using hd), c1]; omega
    · rw [if_neg (by simpa using hd)]; omega
  have hn : (IntOp.minsi 128#32 (IntOp.maxsi 4294967168#32 d)).toInt = min (max d.toInt (-128)) 128 := by
    unfold IntOp.minsi
    rw [BitVec.slt, c2, hm]
    by_cases hd : 128 < max d.toInt (-128)
    · rw [if_pos (by simpa using hd), c2]; omega
    · rw [if_neg (by simpa using hd), hm]; omega
  show (IntOp.minsi 128#32 (IntOp.maxsi 4294967168#32 d) + 128#32).toInt = _
  rw [BitVec.toInt_add, hn, c2]
  exact Int.bmod_eq_of_le (by omega) (by omega)

/-- The clipped distance, as a natural number. -/
theorem clip_at (r : Fin 64) (x : Fin 576) : (clipped (ix2 r x)).toInt = ((min (640 + r.val - x.val) 256 : ℕ) : ℤ) := by
  have e : clipped (ix2 r x) = IntOp.addi (IntOp.minsi 128#32 (IntOp.maxsi 4294967168#32 (distance (ix2 r x)))) 128#32 := by
    pointwise [clipped]
    rfl
  rw [e, clip_word _ (by rw [distance_at]; omega), distance_at]
  omega

/-- The entry the bias gather takes. -/
theorem taps_at (r : Fin 64) (x : Fin 576) : (taps (ix3 r x 0)).toInt = ((min (640 + r.val - x.val) 256 : ℕ) : ℤ) := by
  have e : taps (ix3 r x 0) = Scalar.select (IntOp.cmpi .slt (clipped (ix2 r x)) 0#32) (IntOp.addi (clipped (ix2 r x)) 257#32) (clipped (ix2 r x)) := by
    pointwise [taps]
  rw [e, wrap_word _ _ (by rw [clip_at]; omega), clip_at]

/-- The bias of a query and a key. -/
theorem biases_at (w : FVec Ideal S8x257 .f32) (h : Fin 8) (r : Fin 64) (x : Fin 576) :
    biases w (ix3 h r x) = w (ix2 h ⟨min (640 + r.val - x.val) 256, by omega⟩) := by
  refine (table_at w taps h r x).trans (congrArg w (congrArg (ix2 h) (Fin.ext ?_)))
  show min (taps (ix3 r x 0)).toInt.toNat 256 = min (640 + r.val - x.val) 256
  rw [taps_at]; omega

/-- A padded key past the padding. -/
theorem paddedK_at (a : FVec Ideal S8x2048x1536 .f32) (b : Fin 8) (s : Fin 2560) (h : Fin 8) (e : Fin 64) (hs : 512 ≤ s.val ∧ s.val - 512 < 2048) :
    paddedK a (ix4 b s h e) = a (ix3 b ⟨s.val - 512, hs.2⟩ ⟨512 + (h.val * 64 + e.val), by omega⟩) := by
  pointwise [paddedK]
  rw [dif_pos hs]

/-- A padded value past the padding. -/
theorem paddedV_at (a : FVec Ideal S8x2048x1536 .f32) (b : Fin 8) (s : Fin 2560) (h : Fin 8) (e : Fin 64) (hs : 512 ≤ s.val ∧ s.val - 512 < 2048) :
    paddedV a (ix4 b s h e) = a (ix3 b ⟨s.val - 512, hs.2⟩ ⟨1024 + (h.val * 64 + e.val), by omega⟩) := by
  pointwise [paddedV]
  rw [dif_pos hs]

/-- A key of a window that lies in the sequence. -/
theorem keys_at (a : FVec Ideal S8x2048x1536 .f32) (b : Fin 8) (c : Fin 32) (x : Fin 576) (h : Fin 8) (e : Fin 64) (hx : 512 ≤ x.val + 64 * c.val) :
    keys a (ix5 b c x h e) = a (ix3 b ⟨(c.val * 64 + x.val - 512) % 2048, Nat.mod_lt _ (by omega)⟩ ⟨512 + (h.val * 64 + e.val), by omega⟩) := by
  have hr : min (rows (ix3 c x 0)).toInt.toNat 2559 = c.val * 64 + x.val := by rw [rows_at]; omega
  refine (window_at (paddedK a) rows b c x h e).trans ((paddedK_at a b _ h e (by show 512 ≤ min (rows (ix3 c x 0)).toInt.toNat 2559 ∧ min (rows (ix3 c x 0)).toInt.toNat 2559 - 512 < 2048; omega)).trans
    (congrArg a (congrArg₂ (ix3 b) (Fin.ext ?_) rfl)))
  show min (rows (ix3 c x 0)).toInt.toNat 2559 - 512 = (c.val * 64 + x.val - 512) % 2048
  omega

/-- A value of a window that lies in the sequence. -/
theorem values_at (a : FVec Ideal S8x2048x1536 .f32) (b : Fin 8) (c : Fin 32) (x : Fin 576) (h : Fin 8) (e : Fin 64) (hx : 512 ≤ x.val + 64 * c.val) :
    values a (ix5 b c x h e) = a (ix3 b ⟨(c.val * 64 + x.val - 512) % 2048, Nat.mod_lt _ (by omega)⟩ ⟨1024 + (h.val * 64 + e.val), by omega⟩) := by
  have hr : min (rows (ix3 c x 0)).toInt.toNat 2559 = c.val * 64 + x.val := by rw [rows_at]; omega
  refine (window_at (paddedV a) rows b c x h e).trans ((paddedV_at a b _ h e (by show 512 ≤ min (rows (ix3 c x 0)).toInt.toNat 2559 ∧ min (rows (ix3 c x 0)).toInt.toNat 2559 - 512 < 2048; omega)).trans
    (congrArg a (congrArg₂ (ix3 b) (Fin.ext ?_) rfl)))
  show min (rows (ix3 c x 0)).toInt.toNat 2559 - 512 = (c.val * 64 + x.val - 512) % 2048
  omega

/-- The reference's score is `score`. -/
theorem scores_at (a : FVec Ideal S8x2048x1536 .f32) (w : FVec Ideal S8x257 .f32) (b : Fin 8) (c : Fin 32) (h : Fin 8) (r : Fin 64) (x : Fin 576) :
    scores a w (ix5 b c h r x) = Cert.BandIdeal.Maths.score a w b c h r x := by
  have e : scores a w (ix5 b c h r x) = Scalar.select (IntOp.cmpi CmpIPredicate.sge (pos (ix2 c x)) 512#32)
      ((∑ y : Fin 64, a (ix3 b ⟨c.val * 64 + r.val, by omega⟩ ⟨h.val * 64 + y.val, by omega⟩) * keys a (ix5 b c x h y)) * Cert.BandIdeal.Maths.eighth
        + biases w (ix3 h r x)) (Ideal.ofBits FTy.f32 4286578688#32) := by
    pointwise [scores]
    rfl
  rw [e, valid_at, select_if, neg_inf]
  unfold Cert.BandIdeal.Maths.score
  by_cases hx : 512 ≤ x.val + 64 * c.val
  · rw [if_pos hx, if_pos hx, biases_at]
    refine congrArg₂ (· + ·) (congrArg (· * Cert.BandIdeal.Maths.eighth) (Finset.sum_congr rfl fun y _ => ?_)) rfl
    rw [keys_at a b c x h y hx]
    exact congrArg₂ (· * ·) (congrArg a (congrArg (ix3 b _) (Fin.ext (Nat.zero_add _).symm))) rfl
  · rw [if_neg hx, if_neg hx]

/-- Only the values at keys whose score is not minus infinity count. -/
theorem weighted_congr {n : ℕ} (s v v' : Fin n → EReal) (ht : ∀ x, s x ≠ ⊤) (hb : ∃ x, s x ≠ ⊥) (hv : ∀ x, s x ≠ ⊥ → v x = v' x) :
    weighted s v = weighted s v' := by
  rw [← soft_eq_weighted s v ht hb, ← soft_eq_weighted s v' ht hb]
  exact soft_window (n := n) (k := 0) s v s v' (fun _ => rfl) (fun x => x.elim0) hv

/-- The reference's result at one index, where the queries, the keys and the biases are numbers. -/
theorem ref_at (a : FVec Ideal S8x2048x1536 .f32) (w : FVec Ideal S8x257 .f32) (hf : Cert.BandIdeal.Maths.Finite a w)
    (b : Fin 8) (s : Fin 2048) (l : Fin 1024) :
    mixed (values a) (probs (scores a w)) (ix3 b s l) = Cert.BandIdeal.Maths.result a w b s l := by
  unfold Cert.BandIdeal.Maths.result
  by_cases hl : l.val % 128 < 64
  · rw [soft_at _ _ b s l hl, dif_pos hl]
    simp only [scores_at]
    refine weighted_congr _ _ _ (Cert.BandIdeal.Maths.score_ne_top a w hf _ _ _ _) (Cert.BandIdeal.Maths.score_some a w hf _ _ _ _) fun x hs => ?_
    refine values_at a b _ x _ _ ?_
    by_contra hx
    exact hs (by unfold Cert.BandIdeal.Maths.score; rw [if_neg hx])
  · rw [mixed_at, dif_neg hl, dif_neg hl]

/-- On memories that agree on the arguments the reference's result is the kernel's result array. -/
theorem tie (m' : (ℓ : Loc nD τ sig) → Buf (Elt Ideal) ℓ)
    (m : (ℓ : Loc Cert.BandIdeal.nD Cert.BandIdeal.τ Cert.BandIdeal.sig) → Buf (Elt Ideal) ℓ) (c : Dev nD)
    (hf : Cert.BandIdeal.Maths.Finite (Cert.BandIdeal.Maths.argA m c) (Cert.BandIdeal.Maths.argR m c))
    (h0 : m' ((c.tc : Thread nD τ).loc Cert.BandRefIdeal.main_arg0) = m ((c.tc : Thread nD τ).loc Cert.BandIdeal.main_arg0))
    (h1 : m' ((c.tc : Thread nD τ).loc Cert.BandRefIdeal.main_arg1) = m ((c.tc : Thread nD τ).loc Cert.BandIdeal.main_arg1)) :
    (show FVec Ideal S8x2048x1024 .bf16 from Cert.BandRefIdeal.Value.res_out0 m' c)
      = (Cert.BandIdeal.Gen.dats m 0 c).arrAt 4 Cert.BandIdeal.cfg0.N := by
  rw [Cert.BandIdeal.Maths.final m c hf]
  funext j
  idx_vars j
  refine (congrFun (result_eq m' c) (ix3 j0 j1 j2)).trans ?_
  rw [h0, h1]
  exact ref_at _ _ hf j0 j1 j2

/-- The side conditions of the precondition's operations. -/
theorem preFacts : Cert.Pre_finite_scores.Facts where
  slices_S8x2048x1536_S8x2048x1024_0_0_0 := by decide
  bcast_S_S8x2048x1024 := by decide
  reducesTo_S8x2048x1024_S_d0_1_2 := by decide
  h_S_ := by decide
  bcast_S_S8x257 := by decide
  reducesTo_S8x257_S_d0_1 := by decide

/-- A number whose absolute value is below infinity is neither infinity. -/
theorem real_of_abs (x : EReal) (h : Ideal.cmp .olt (max x (-x)) (Ideal.ofBits FTy.f32 0x7F800000#32) = 1#1) : Cert.BandIdeal.Maths.IsReal x := by
  have e : Ideal.ofBits FTy.f32 0x7F800000#32 = ⊤ := by
    show Ideal.ieee 8 23 0x7F800000#32 = ⊤
    unfold Ideal.ieee
    simp
  rw [e] at h
  have hl : max x (-x) < ⊤ := by
    by_contra hn
    have : Ideal.cmp .olt (max x (-x)) ⊤ = 0#1 := by simp [Ideal.cmp, hn]
    rw [this] at h
    exact absurd h (by decide)
  obtain ⟨h1, h2⟩ := max_lt_iff.1 hl
  induction x using EReal.rec with
  | bot => exact absurd h2 (by simp)
  | top => exact absurd h1 (by simp)
  | coe r => exact ⟨r, rfl⟩

/-- The precondition says that the queries, the keys and the biases are numbers. -/
theorem finite_of_pre [hp : Cert.Pre_finite_scores.Facts] (a : FVec Ideal Cert.BandIdeal.S8x2048x1536 .f32) (w : FVec Ideal Cert.BandIdeal.S8x257 .f32)
    (h : Cert.Pre_finite_scores.fn (F := Ideal) a w = fun _ => 1#1) : Cert.BandIdeal.Maths.Finite a w := by
  obtain ⟨e1, e2⟩ := IntOp.andi_eq_one.1 (show IntOp.andi _ _ = 1#1 from congrFun h ix0)
  refine ⟨fun b s x hx => ?_, fun k l => ?_⟩
  · have := Host.reduce_andi_all _ _ _ _ ix0 e1 (ix3 b s ⟨x.val, hx⟩)
    refine real_of_abs _ (Eq.trans ?_ this)
    pointwise
    rfl
  · exact real_of_abs _ (Host.reduce_andi_all _ _ _ _ ix0 e2 (ix2 k l))

end Cert.BandRefIdeal.Maths

end
-- ==== Proof.FfnValue.lean ====
module

public import proofs.«01_k».proof.Proof.Gen.FfnIdeal.Value
public import proofs.«01_k».proof.Proof.Common

@[expose] public section

set_option maxRecDepth 16384

noncomputable section

namespace Cert.FfnIdeal.Maths

open Idealize.ShloMosaic Idealize.ShloMosaic.TcCoe Idealize.SL.Sem
open Idealize.ShloMosaic.Pipeline (Dat)
open Cert.FfnIdeal Cert.FfnIdeal.Gen Cert.Common

/-- The kernel's normalised row block is `rms` of each row. -/
theorem pay1_at (x : FVec Ideal S512x2048 .f32) (g : FVec Ideal S1x2048 .f32) (r : Fin 512) (l : Fin 2048) :
    k0_pay1 (F := Ideal) x g (ix2 r l) = rms (fun l => x (ix2 r l)) (fun l => g (ix2 0 l)) l := by
  pointwise [k0_pay1, rms]

/-- The accumulator is filled with zeros. -/
theorem pay2_at (j : S512x2048.Idx) : k0_pay2 (F := Ideal) j = 0 := by
  pointwise [k0_pay2]

/-- One step of the hidden axis: the accumulator plus this block's squared-relu contribution. -/
theorem pay3_at (z : FVec Ideal S512x2048 .bf16) (wu : FVec Ideal S2048x1024 .bf16) (acc : FVec Ideal S512x2048 .f32)
    (wd : FVec Ideal S1024x2048 .bf16) (j : S512x2048.Idx) :
    k0_pay3 (F := Ideal) z wu acc wd j
      = acc j + ∑ k : Fin 1024, max (∑ q : Fin 2048, z (ix2 (j 0) q) * wu (ix2 q k)) 0
          * max (∑ q : Fin 2048, z (ix2 (j 0) q) * wu (ix2 q k)) 0 * wd (ix2 k (j 1)) := by
  pointwise [k0_pay3]

/-- The last step: the residual plus the normalised accumulator. -/
theorem pay4_at (h acc : FVec Ideal S512x2048 .f32) (g : FVec Ideal S1x2048 .f32) (r : Fin 512) (l : Fin 2048) :
    k0_pay4 (F := Ideal) h acc g (ix2 r l)
      = h (ix2 r l) + rms (fun l => acc (ix2 r l)) (fun l => g (ix2 0 l)) l := by
  pointwise [k0_pay4, rms]

variable (m : (ℓ : Loc nD τ sig) → Buf (Elt Ideal) ℓ)

/-- Which block each window reads at point `t`: row block `t / 8`, hidden block `t % 8`. -/
theorem idx : ∀ t : Fin cfg0.N, win0_0.index t = ![t.val / 8, 0] ∧ win0_1.index t = ![0, 0]
    ∧ win0_2.index t = ![0, t.val % 8] ∧ win0_3.index t = ![t.val % 8, 0] ∧ win0_4.index t = ![0, 0]
    ∧ win0_5.index t = ![t.val / 8, 0] :=
  (by decide +kernel : ∀ t : Fin grid0.N, _)

/-- The normalised rows at point `t`. -/
abbrev zAt (c : Dev nD) (t : Fin cfg0.N) : FVec Ideal S512x2048 .bf16 :=
  k0_pay1 (F := Ideal) (iblk m c 0 t) (iblk m c 1 t)

/-- The rows a grid point reads are the same all along its inner axis. -/
theorem blk0_pred (c : Dev nD) (t s : Fin cfg0.N) (h : s.val / 8 = t.val / 8) : iblk m c 0 s = iblk m c 0 t := by
  funext y
  have hs := idx s
  have ht := idx t
  blk_ext [iblk, V, idx t, idx s]

/-- The first norm's weights are the same at every grid point. -/
theorem blk1_pred (c : Dev nD) (t s : Fin cfg0.N) : iblk m c 1 s = iblk m c 1 t := by
  funext y
  blk_ext [iblk, V, idx t, idx s]

/-- The scratch of normalised rows holds the current row block's at every point. -/
theorem scratch_z (c : Dev nD) : ∀ (n : ℕ) (h : n < cfg0.N), (outsAt0 m c n h).2.1 = zAt m c ⟨n, h⟩ := by
  intro n
  induction n using Nat.strong_induction_on with
  | _ n ih =>
    intro h
    by_cases h0 : n % 8 = 0
    · rw [show outsAt0 m c n h = _ from outsAt0_A m c ⟨n, h⟩ h0 (show ¬n % 8 = 7 by omega)]
      frame_out
    · have hp : n - 1 < cfg0.N := by omega
      have e0 := blk0_pred m c ⟨n, h⟩ ⟨n - 1, hp⟩ (by show (n - 1) / 8 = n / 8; omega)
      have e1 := blk1_pred m c ⟨n, h⟩ ⟨n - 1, hp⟩
      have := ih (n - 1) (by omega) hp
      unfold zAt at this ⊢
      rw [e0, e1] at this
      by_cases h1 : n % 8 = 7
      · rw [show outsAt0 m c n h = _ from outsAt0_C m c ⟨n, h⟩ h0 h1]
        frame_out
        exact this
      · rw [show outsAt0 m c n h = _ from outsAt0_B m c ⟨n, h⟩ h0 h1]
        frame_out
        exact this

/-- What the step at point `t` adds to the accumulator. -/
abbrev part (c : Dev nD) (t : Fin cfg0.N) (j : S512x2048.Idx) : EReal :=
  ∑ k : Fin 1024, max (∑ q : Fin 2048, zAt m c t (ix2 (j 0) q) * (show FVec Ideal S2048x1024 .bf16 from iblk m c 2 t) (ix2 q k)) 0
    * max (∑ q : Fin 2048, zAt m c t (ix2 (j 0) q) * (show FVec Ideal S2048x1024 .bf16 from iblk m c 2 t) (ix2 q k)) 0
    * (show FVec Ideal S1024x2048 .bf16 from iblk m c 3 t) (ix2 k (j 1))

/-- Reading back what was stored in the first scratch array. -/
theorem rd0 (x : Vec Ideal S512x2048 .bf16) :
    View.read (Elt Ideal) (View.whole cc0_scratch0) ((Memref.isWhole_whole cc0_scratch0).unread x) = x :=
  (Memref.isWhole_whole cc0_scratch0).read_unread x

/-- Reading back what was stored in the second scratch array. -/
theorem rd1 (x : Vec Ideal S512x2048 .f32) :
    View.read (Elt Ideal) (View.whole cc0_scratch1) ((Memref.isWhole_whole cc0_scratch1).unread x) = x :=
  (Memref.isWhole_whole cc0_scratch1).read_unread x

/-- The first step of a row of the grid starts the sum from zero. -/
theorem acc_reset (c : Dev nD) (t : Fin cfg0.N) (h : t.val % 8 = 0) (j : S512x2048.Idx) :
    (outsAt0 m c t.val t.isLt).2.2 j = (0 : EReal) + part m c t j := by
  rw [outsAt0_A m c t h (by omega)]
  frame_out
  rw [pay3_at, pay2_at]

/-- Each later step adds its part to the sum. -/
theorem acc_step (c : Dev nD) (t : Fin cfg0.N) (h : ¬t.val % 8 = 0) (j : S512x2048.Idx) :
    (outsAt0 m c t.val t.isLt).2.2 j
      = (outsAt0 m c (t.val - 1) (Nat.lt_of_le_of_lt (Nat.sub_le _ _) t.isLt)).2.2 j + part m c t j := by
  have hz : (outsAt0 m c (t.val - 1) (Nat.lt_of_le_of_lt (Nat.sub_le _ _) t.isLt)).2.1 = zAt m c t := by
    rw [scratch_z]
    unfold zAt
    rw [blk0_pred m c t _ (show (t.val - 1) / 8 = t.val / 8 by omega), blk1_pred m c t _]
  by_cases h1 : t.val % 8 = 7
  · rw [outsAt0_C m c t h h1]
    frame_out
    rw [pay3_at, hz]
    rw [rd0, rd1]
  · rw [outsAt0_B m c t h h1]
    frame_out
    rw [pay3_at, hz]
    rw [rd0, rd1]

/-- After the last step of a row block the accumulator is the sum of all eight steps. -/
theorem acc_last (c : Dev nD) (t : Fin cfg0.N) (hr : t.val % 8 = 8 - 1) (j : S512x2048.Idx) :
    (outsAt0 m c t.val t.isLt).2.2 j
      = (0 : EReal) + ∑ s : Fin 8, part m c ⟨8 * (t.val / 8) + s.val, Pipeline.run_point_lt_of_flush t hr s⟩ j :=
  Pipeline.eq_sum_fin_of_reset_step_apply_of_flush (fun n h => (outsAt0 m c n h).2.2) 8 (fun _ => (0 : EReal))
    (part m c) (acc_reset m c) (acc_step m c) t hr j

/-- The whole layer's feed-forward step at row `r`, lane `l`, from its five arrays. -/
def spec (h : FVec Ideal S16384x2048 .f32) (g1 : FVec Ideal S2048 .f32) (wu : FVec Ideal S2048x8192 .f32)
    (wd : FVec Ideal S8192x2048 .f32) (g2 : FVec Ideal S2048 .f32) (r : Fin 16384) (l : Fin 2048) : EReal :=
  h (ix2 r l) + rms (fun n => ∑ k : Fin 8192,
      max (∑ q : Fin 2048, rms (fun q => h (ix2 r q)) (fun q => g1 (ix1 q)) q * wu (ix2 q k)) 0
        * max (∑ q : Fin 2048, rms (fun q => h (ix2 r q)) (fun q => g1 (ix1 q)) q * wu (ix2 q k)) 0
        * wd (ix2 k n)) (fun q => g2 (ix1 q)) l

/-- What the last step of a row block writes out: residual plus normalised accumulator. -/
theorem out_last (c : Dev nD) (t : Fin cfg0.N) (hr : t.val % 8 = 7) :
    (outsAt0 m c t.val t.isLt).1
      = k0_pay4 (F := Ideal) (iblk m c 0 t) (outsAt0 m c t.val t.isLt).2.2 (iblk m c 4 t) := by
  rw [outsAt0_C m c t (by omega) hr]
  frame_out

/-- The block of rows, read from the argument. -/
theorem h_at (c : Dev nD) (t : Fin cfg0.N) (y0 : Fin 512) (l : Fin 2048) (r : Fin 16384)
    (er : r.val = t.val / 8 * 512 + (y0 : ℕ)) :
    (show FVec Ideal S512x2048 .f32 from iblk m c 0 t) (ix2 y0 l)
      = (show FVec Ideal S16384x2048 .f32 from m ((c.tc : Thread nD τ).loc main_arg0)) (ix2 r l) := by
  blk_ext [iblk, V, idx t]

/-- The first norm's weights, read from the argument. -/
theorem g1_at (c : Dev nD) (t : Fin cfg0.N) (l : Fin 2048) :
    (show FVec Ideal S1x2048 .f32 from iblk m c 1 t) (ix2 0 l)
      = (show FVec Ideal S2048 .f32 from m ((c.tc : Thread nD τ).loc main_arg1)) (ix1 l) := by
  blk_point [iblk, V, idx t]

/-- The block of the up weights, read from the argument. -/
theorem wu_at (c : Dev nD) (t : Fin cfg0.N) (q : Fin 2048) (k : Fin 1024) (k' : Fin 8192)
    (ek : k'.val = t.val % 8 * 1024 + (k : ℕ)) :
    (show FVec Ideal S2048x1024 .bf16 from iblk m c 2 t) (ix2 q k)
      = (show FVec Ideal S2048x8192 .f32 from m ((c.tc : Thread nD τ).loc main_arg2)) (ix2 q k') := by
  blk_point [iblk, V, idx t]

/-- The block of the down weights, read from the argument. -/
theorem wd_at (c : Dev nD) (t : Fin cfg0.N) (k : Fin 1024) (n : Fin 2048) (k' : Fin 8192)
    (ek : k'.val = t.val % 8 * 1024 + (k : ℕ)) :
    (show FVec Ideal S1024x2048 .bf16 from iblk m c 3 t) (ix2 k n)
      = (show FVec Ideal S8192x2048 .f32 from m ((c.tc : Thread nD τ).loc main_arg3)) (ix2 k' n) := by
  blk_point [iblk, V, idx t]

/-- The second norm's weights, read from the argument. -/
theorem g2_at (c : Dev nD) (t : Fin cfg0.N) (l : Fin 2048) :
    (show FVec Ideal S1x2048 .f32 from iblk m c 4 t) (ix2 0 l)
      = (show FVec Ideal S2048 .f32 from m ((c.tc : Thread nD τ).loc main_arg4)) (ix1 l) := by
  blk_point [iblk, V, idx t]

/-- The normalised rows at a point, in the arrays. -/
theorem z_at (c : Dev nD) (t : Fin cfg0.N) (y0 : Fin 512) (q : Fin 2048) (r : Fin 16384)
    (er : r.val = t.val / 8 * 512 + (y0 : ℕ)) :
    zAt m c t (ix2 y0 q)
      = rms (fun q => (show FVec Ideal S16384x2048 .f32 from m ((c.tc : Thread nD τ).loc main_arg0)) (ix2 r q))
          (fun q => (show FVec Ideal S2048 .f32 from m ((c.tc : Thread nD τ).loc main_arg1)) (ix1 q)) q := by
  unfold zAt
  rw [pay1_at]
  exact congrArg₂ (fun a b => rms a b q) (funext fun l => h_at m c t y0 l r er) (funext fun l => g1_at m c t l)

/-- One grid point's block, at the indices the block covers in the result. -/
theorem block_eq (c : Dev nD) (t : Fin cfg0.N) (hr : t.val % 8 = 7) (y : S512x2048.Idx) (r : Fin 16384) (l : Fin 2048)
    (er : r.val = t.val / 8 * 512 + (y 0 : ℕ)) (el : l.val = (y 1 : ℕ)) :
    k0_pay4 (F := Ideal) (iblk m c 0 t) (outsAt0 m c t.val t.isLt).2.2 (iblk m c 4 t) y
      = spec (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) r l := by
  idx_vars y
  rw [pay4_at]
  unfold spec
  have el' : y1 = l := Fin.ext el.symm
  subst el'
  refine congrArg₂ (· + ·) (h_at m c t y0 y1 r er) ?_
  refine congrArg₂ (fun a b => rms a b y1) (funext fun n => ?_) (funext fun l => g2_at m c t l)
  rw [acc_last m c t hr, zero_add]
  refine Fin.sum_mul_add_congr fun s k hl => ?_
  have hs := Pipeline.run_point_lt_of_flush t hr s
  have hd : (8 * (t.val / 8) + s.val) / 8 = t.val / 8 := by omega
  have hm : (8 * (t.val / 8) + s.val) % 8 = s.val := by omega
  have hz : ∀ q, zAt m c ⟨8 * (t.val / 8) + s.val, hs⟩ (ix2 y0 q) = _ := fun q =>
    z_at m c ⟨8 * (t.val / 8) + s.val, hs⟩ y0 q r (by show _ = (8 * (t.val / 8) + s.val) / 8 * 512 + _; rw [hd]; exact er)
  have hu := fun q => wu_at m c ⟨8 * (t.val / 8) + s.val, hs⟩ q k ⟨s.val * 1024 + k.val, hl⟩
    (by show _ = (8 * (t.val / 8) + s.val) % 8 * 1024 + _; rw [hm])
  have hd := wd_at m c ⟨8 * (t.val / 8) + s.val, hs⟩ k n ⟨s.val * 1024 + k.val, hl⟩
    (by show _ = (8 * (t.val / 8) + s.val) % 8 * 1024 + _; rw [hm])
  have hsum := Finset.sum_congr (rfl : (Finset.univ : Finset (Fin 2048)) = Finset.univ)
    (fun q _ => congrArg₂ (· * ·) (hz q) (hu q))
  exact congrArg₂ (fun a b : EReal => max a 0 * max a 0 * b) hsum hd

/-- The program's result array is `spec` of its argument arrays. -/
theorem final (c : Dev nD) : (dats m 0 c).arrAt 5 cfg0.N
    = fun j : S16384x2048.Idx => spec (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (j 0) (j 1) := by
  refine (dats m 0 c).arrAt_eq_of_covers 5 _ (by decide +kernel) fun t hf y => ?_
  have hr := (flush0_5 t).mp hf
  blk_simp
  rw [after0_5, out_last m c t hr]
  refine block_eq m c t hr y _ _ ?_ ?_
  · blk_simp [idx t]
  · blk_simp [idx t]

end Cert.FfnIdeal.Maths

end
-- ==== Proof.FfnRefValue.lean ====
module

public import proofs.«01_k».proof.Proof.FfnValue
public import proofs.«01_k».proof.Proof.Gen.FfnRefIdeal.Run
public import Idealize.ShloMosaic.Lib.Pointwise

@[expose] public section

set_option maxRecDepth 16384

noncomputable section

namespace Cert.FfnRefIdeal.Maths

open Idealize.ShloMosaic Idealize.ShloMosaic.TcCoe Idealize.SL.Sem
open Cert.FfnRefIdeal Cert.FfnRefIdeal.Gen

variable (m : (ℓ : Loc nD τ sig) → Buf (Elt Ideal) ℓ)

/-- The reference's result, read at row `r` and lane `l`, is the same `spec` of its argument arrays. -/
theorem ref_at (c : Dev nD) (r : Fin 16384) (l : Fin 2048) :
    (show FVec Ideal S16384x2048 .f32 from Cert.FfnRefIdeal.Value.res_out0 m c) (ix2 r l)
      = Cert.FfnIdeal.Maths.spec (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) r l := by
  unfold Cert.FfnRefIdeal.Value.res_out0 Cert.FfnIdeal.Maths.spec Cert.Common.rms
  pointwise [Cert.FfnRefIdeal.Value.res_main_v30]

/-- On memories that agree on the arguments the reference's result is the kernel's result array. -/
theorem tie (m' : (ℓ : Loc nD τ sig) → Buf (Elt Ideal) ℓ)
    (m : (ℓ : Loc Cert.FfnIdeal.nD Cert.FfnIdeal.τ Cert.FfnIdeal.sig) → Buf (Elt Ideal) ℓ) (c : Dev nD)
    (h0 : m' ((c.tc : Thread nD τ).loc Cert.FfnRefIdeal.main_arg0) = m ((c.tc : Thread nD τ).loc Cert.FfnIdeal.main_arg0))
    (h1 : m' ((c.tc : Thread nD τ).loc Cert.FfnRefIdeal.main_arg1) = m ((c.tc : Thread nD τ).loc Cert.FfnIdeal.main_arg1))
    (h2 : m' ((c.tc : Thread nD τ).loc Cert.FfnRefIdeal.main_arg2) = m ((c.tc : Thread nD τ).loc Cert.FfnIdeal.main_arg2))
    (h3 : m' ((c.tc : Thread nD τ).loc Cert.FfnRefIdeal.main_arg3) = m ((c.tc : Thread nD τ).loc Cert.FfnIdeal.main_arg3))
    (h4 : m' ((c.tc : Thread nD τ).loc Cert.FfnRefIdeal.main_arg4) = m ((c.tc : Thread nD τ).loc Cert.FfnIdeal.main_arg4)) :
    (show FVec Ideal S16384x2048 .f32 from Cert.FfnRefIdeal.Value.res_out0 m' c)
      = (Cert.FfnIdeal.Gen.dats m 0 c).arrAt 5 Cert.FfnIdeal.cfg0.N := by
  rw [Cert.FfnIdeal.Maths.final m c]
  funext j
  idx_vars j
  refine (ref_at m' c j0 j1).trans ?_
  rw [h0, h1, h2, h3, h4]

end Cert.FfnRefIdeal.Maths

end
-- ==== Proof.MergeValue.lean ====
module

public import proofs.«01_k».proof.Proof.Gen.MergeIdeal.Value
public import proofs.«01_k».proof.Proof.Common

@[expose] public section

set_option maxRecDepth 16384

noncomputable section

namespace Cert.MergeIdeal.Maths

open Idealize.ShloMosaic Idealize.ShloMosaic.TcCoe Idealize.SL.Sem
open Idealize.ShloMosaic.Pipeline (Dat)
open Cert.MergeIdeal Cert.MergeIdeal.Gen Cert.Common

variable (m : (ℓ : Loc nD τ sig) → Buf (Elt Ideal) ℓ)

/-- The last step: the residual plus the normalised accumulator. -/
theorem pay2_at (h acc : FVec Ideal S512x2048 .f32) (g : FVec Ideal S1x2048 .f32) (r : Fin 512) (l : Fin 2048) :
    k0_pay2 (F := Ideal) h acc g (ix2 r l)
      = h (ix2 r l) + rms (fun l => acc (ix2 r l)) (fun l => g (ix2 0 l)) l := by
  pointwise [k0_pay2, rms]

/-- The accumulator is filled with zeros. -/
theorem pay3_at (j : S512x2048.Idx) : k0_pay3 (F := Ideal) j = 0 := by
  pointwise [k0_pay3]

/-- Which block each window reads at point `t`: row block `t / 8`, column block `t % 8`. -/
theorem idx : ∀ t : Fin cfg0.N, win0_0.index t = ![t.val / 8, 0] ∧ win0_1.index t = ![t.val / 8, 0]
    ∧ win0_2.index t = ![t.val / 8, 0] ∧ win0_3.index t = ![t.val / 8, 0] ∧ win0_4.index t = ![t.val / 8, 0]
    ∧ win0_5.index t = ![t.val / 8, 0] ∧ win0_6.index t = ![0, 0, t.val % 8] ∧ win0_7.index t = ![0, t.val % 8]
    ∧ win0_8.index t = ![0, t.val % 8] ∧ win0_9.index t = ![0, t.val % 8] ∧ win0_10.index t = ![0, t.val % 8]
    ∧ win0_11.index t = ![t.val % 8, 0] ∧ win0_12.index t = ![0, 0] ∧ win0_13.index t = ![t.val / 8, 0] :=
  (by decide +kernel : ∀ t : Fin grid0.N, _)

/-- One branch: its gate times its projection. -/
abbrev branch {K : ℕ} (u wg : Fin 2048 → EReal) (y wb : Fin K → EReal) : EReal :=
  gate (∑ q, u q * wg q) * ∑ q, y q * wb q

/-- What the step at point `t` adds to the accumulator. -/
abbrev part (c : Dev nD) (t : Fin cfg0.N) (j : S512x2048.Idx) : EReal :=
  let u : Fin 2048 → EReal := fun q => (show FVec Ideal S512x2048 .bf16 from iblk m c 0 t) (ix2 (j 0) q)
  let wg : Fin 4 → Fin 256 → Fin 2048 → EReal := fun b k q => (show FVec Ideal S4x2048x256 .bf16 from iblk m c 6 t) (ix3 b q k)
  ∑ k : Fin 256, (branch u (wg 0 k) (fun q => (show FVec Ideal S512x1024 .bf16 from iblk m c 1 t) (ix2 (j 0) q))
          (fun q => (show FVec Ideal S1024x256 .bf16 from iblk m c 7 t) (ix2 q k))
        + branch u (wg 1 k) (fun q => (show FVec Ideal S512x512 .bf16 from iblk m c 2 t) (ix2 (j 0) q))
          (fun q => (show FVec Ideal S512x256 .bf16 from iblk m c 8 t) (ix2 q k))
        + branch u (wg 2 k) (fun q => (show FVec Ideal S512x1024 .bf16 from iblk m c 3 t) (ix2 (j 0) q))
          (fun q => (show FVec Ideal S1024x256 .bf16 from iblk m c 9 t) (ix2 q k))
        + branch u (wg 3 k) (fun q => (show FVec Ideal S512x512 .bf16 from iblk m c 4 t) (ix2 (j 0) q))
          (fun q => (show FVec Ideal S512x256 .bf16 from iblk m c 10 t) (ix2 q k)))
      * (show FVec Ideal S256x2048 .bf16 from iblk m c 11 t) (ix2 k (j 1))

/-- One step's payload: the accumulator it finds plus `part`. -/
theorem step_at (c : Dev nD) (t : Fin cfg0.N) (acc : FVec Ideal S512x2048 .f32) (j : S512x2048.Idx) :
    k0_pay1 (F := Ideal)
      (k0_pay7 (k0_pay4 (iblk m c 0 t))
        (k0_pay5 (iblk m c 0 t)
          (View.ld (iblk m c 6 t) (Rect.unit ![0, 0, 0] ![1, 2048, 256] inb_S4x2048x256_S1x2048x256_0_0_0))
          (iblk m c 1 t) (iblk m c 7 t))
        (k0_pay6 (iblk m c 0 t)
          (View.ld (iblk m c 6 t) (Rect.unit ![1, 0, 0] ![1, 2048, 256] inb_S4x2048x256_S1x2048x256_1_0_0)))
        (iblk m c 2 t) (iblk m c 8 t)
        (View.ld (iblk m c 6 t) (Rect.unit ![2, 0, 0] ![1, 2048, 256] inb_S4x2048x256_S1x2048x256_2_0_0)) (iblk m c 3 t)
        (iblk m c 9 t))
      (k0_pay8 (k0_pay4 (iblk m c 0 t))
        (View.ld (iblk m c 6 t) (Rect.unit ![3, 0, 0] ![1, 2048, 256] inb_S4x2048x256_S1x2048x256_3_0_0)))
      (k0_pay9 (iblk m c 4 t)) (iblk m c 10 t) acc (iblk m c 11 t) j
    = acc j + part m c t j := by
  have e : ∀ x : EReal, 0 - x = -x := fun x => by rw [sub_eq_add_neg, zero_add]
  unfold part branch gate
  idx_vars j
  pointwise [k0_pay1, k0_pay5, k0_pay4, k0_pay6, k0_pay7, k0_pay8, k0_pay9]
  simp only [e]

/-- The first step of a row of the grid starts the sum from zero. -/
theorem acc_reset (c : Dev nD) (t : Fin cfg0.N) (h : t.val % 8 = 0) (j : S512x2048.Idx) :
    (outsAt0 m c t.val t.isLt).2 j = (0 : EReal) + part m c t j := by
  rw [outsAt0_A m c t h (by omega)]
  frame_out
  exact (step_at m c t _ j).trans (by rw [pay3_at])

/-- Each later step adds its part to the sum. -/
theorem acc_step (c : Dev nD) (t : Fin cfg0.N) (h : ¬t.val % 8 = 0) (j : S512x2048.Idx) :
    (outsAt0 m c t.val t.isLt).2 j
      = (outsAt0 m c (t.val - 1) (Nat.lt_of_le_of_lt (Nat.sub_le _ _) t.isLt)).2 j + part m c t j := by
  by_cases h1 : t.val % 8 = 7
  · rw [outsAt0_C m c t h h1]
    frame_out
    exact (step_at m c t _ j).trans (by rw [Idealize.ShloMosaic.read_unread_whole])
  · rw [outsAt0_B m c t h h1]
    frame_out
    exact (step_at m c t _ j).trans (by rw [Idealize.ShloMosaic.read_unread_whole])

/-- After the last step of a row block the accumulator is the sum of all eight steps. -/
theorem acc_last (c : Dev nD) (t : Fin cfg0.N) (hr : t.val % 8 = 8 - 1) (j : S512x2048.Idx) :
    (outsAt0 m c t.val t.isLt).2 j
      = (0 : EReal) + ∑ s : Fin 8, part m c ⟨8 * (t.val / 8) + s.val, Pipeline.run_point_lt_of_flush t hr s⟩ j :=
  Pipeline.eq_sum_fin_of_reset_step_apply_of_flush (fun n h => (outsAt0 m c n h).2) 8 (fun _ => (0 : EReal))
    (part m c) (acc_reset m c) (acc_step m c) t hr j

/-- The four branches, gated, projected and added, at row `r` and column `k`. -/
def mixed (u : FVec Ideal S16384x2048 .f32) (ya yb yc yd : FVec Ideal S16384x512 .f32)
    (wg : FVec Ideal S4x2048x2048 .f32) (wb : FVec Ideal S4x512x2048 .f32) (r : Fin 16384) (k : Fin 2048) : EReal :=
  branch (fun q => u (ix2 r q)) (fun q => wg (ix3 0 q k)) (fun q => ya (ix2 r q)) (fun q => wb (ix3 0 q k))
    + branch (fun q => u (ix2 r q)) (fun q => wg (ix3 1 q k)) (fun q => yb (ix2 r q)) (fun q => wb (ix3 1 q k))
    + branch (fun q => u (ix2 r q)) (fun q => wg (ix3 2 q k)) (fun q => yc (ix2 r q)) (fun q => wb (ix3 2 q k))
    + branch (fun q => u (ix2 r q)) (fun q => wg (ix3 3 q k)) (fun q => yd (ix2 r q)) (fun q => wb (ix3 3 q k))

/-- The layer's merge of its four branches at row `r`, lane `l`, from its ten arrays. -/
def spec (u : FVec Ideal S16384x2048 .f32) (ya yb yc yd : FVec Ideal S16384x512 .f32) (x : FVec Ideal S16384x2048 .f32)
    (wg : FVec Ideal S4x2048x2048 .f32) (wb : FVec Ideal S4x512x2048 .f32) (wo : FVec Ideal S2048x2048 .f32)
    (g : FVec Ideal S2048 .f32) (r : Fin 16384) (l : Fin 2048) : EReal :=
  x (ix2 r l) + rms (fun n => ∑ k : Fin 2048, mixed u ya yb yc yd wg wb r k * wo (ix2 k n)) (fun q => g (ix1 q)) l

section reads
variable (c : Dev nD) (t : Fin cfg0.N) (y0 : Fin 512) (r : Fin 16384) (er : r.val = t.val / 8 * 512 + (y0 : ℕ))
  (k : Fin 256) (k' : Fin 2048) (ek : k'.val = t.val % 8 * 256 + (k : ℕ))
include er

/-- The block of normalised rows, read from the argument. -/
theorem u_at (q : Fin 2048) : (show FVec Ideal S512x2048 .bf16 from iblk m c 0 t) (ix2 y0 q)
    = (show FVec Ideal S16384x2048 .f32 from m ((c.tc : Thread nD τ).loc main_arg0)) (ix2 r q) := by
  blk_point [iblk, V, idx t]

/-- The block of the second branch's output, read from its array. -/
theorem yb_at (q : Fin 512) : (show FVec Ideal S512x512 .bf16 from iblk m c 2 t) (ix2 y0 q)
    = (show FVec Ideal S16384x512 .f32 from m ((c.tc : Thread nD τ).loc main_arg2)) (ix2 r q) := by
  blk_point [iblk, V, idx t]

/-- The block of the fourth branch's output, read from its array. -/
theorem yd_at (q : Fin 512) : (show FVec Ideal S512x512 .bf16 from iblk m c 4 t) (ix2 y0 q)
    = (show FVec Ideal S16384x512 .f32 from m ((c.tc : Thread nD τ).loc main_arg4)) (ix2 r q) := by
  blk_point [iblk, V, idx t]

/-- The block of residual rows, read from the argument. -/
theorem x_at (q : Fin 2048) : (show FVec Ideal S512x2048 .f32 from iblk m c 5 t) (ix2 y0 q)
    = (show FVec Ideal S16384x2048 .f32 from m ((c.tc : Thread nD τ).loc main_arg5)) (ix2 r q) := by
  blk_point [iblk, V, idx t]

end reads

/-- The first branch's rows as the kernel is given them: eight heads of 64 lanes, each in a slot of 128 lanes, zeros after. -/
theorem ya_entry (c : Dev nD) (r : Fin 16384) (x : Fin 1024) :
    (show FVec Ideal S16384x1024 .bf16 from V m c main_v53) (ix2 r x)
      = if h : x.val / 128 < 8 ∧ x.val % 128 < 64 then
          (show FVec Ideal S16384x512 .f32 from m ((c.tc : Thread nD τ).loc main_arg1)) (ix2 r ⟨x.val / 128 * 64 + x.val % 128, by omega⟩)
        else 0 := by
  simp only [V, hostOps0, hostOps0_1, hostOps0_2, hostOps0_3, hostOps0_4,
    List.flatten_cons, List.flatten_nil, List.cons_append, List.nil_append, List.append_nil, StableHlo.TRef.unary,
    StableHlo.TRef.binary, StableHlo.TRef.nullary, StableHlo.TRef.toBuf, StableHlo.TRef.ofBuf, cast_eq]
  after_results_simp
  pointwise
  refine dite_congr rfl (fun _ => rfl) (fun _ => ?_)
  exact sitofp_zero

/-- The third branch's rows as the kernel is given them: eight heads of 64 lanes, each in a slot of 128 lanes, zeros after. -/
theorem yc_entry (c : Dev nD) (r : Fin 16384) (x : Fin 1024) :
    (show FVec Ideal S16384x1024 .bf16 from V m c main_v58) (ix2 r x)
      = if h : x.val / 128 < 8 ∧ x.val % 128 < 64 then
          (show FVec Ideal S16384x512 .f32 from m ((c.tc : Thread nD τ).loc main_arg3)) (ix2 r ⟨x.val / 128 * 64 + x.val % 128, by omega⟩)
        else 0 := by
  simp only [V, hostOps0, hostOps0_1, hostOps0_2, hostOps0_3, hostOps0_4,
    List.flatten_cons, List.flatten_nil, List.cons_append, List.nil_append, List.append_nil, StableHlo.TRef.unary,
    StableHlo.TRef.binary, StableHlo.TRef.nullary, StableHlo.TRef.toBuf, StableHlo.TRef.ofBuf, cast_eq]
  after_results_simp
  pointwise
  refine dite_congr rfl (fun _ => rfl) (fun _ => ?_)
  exact sitofp_zero

/-- The host's arrays after its first `k` operations. -/
def front (k : ℕ) (c : Dev nD) : Valuation τ sig (Elt Ideal) := StableHlo.after (hostOps0.take k) (fun b => m (c, b))

/-- The host's arrays at the call, from those after its first `k` operations. -/
theorem V_cut (k : ℕ) (c : Dev nD) :
    StableHlo.after (List.flatten [hostOps0, hostOps0_1, hostOps0_2, hostOps0_3, hostOps0_4]) (fun b => m (c, b))
      = StableHlo.after (hostOps0.drop k ++ List.flatten [hostOps0_1, hostOps0_2, hostOps0_3, hostOps0_4]) (front m k c) := by
  unfold front
  rw [← StableHlo.after_append, ← List.append_assoc, List.take_append_drop]
  simp only [List.flatten_cons, List.flatten_nil, List.append_assoc, List.append_nil]

/-- The blocks of 64 rows that the first branch's weights are joined from: a head, then zeros. -/
def rows_a (F : Valuation τ sig (Elt Ideal)) : List ((s : Shape) × (s.Idx → EReal)) :=
  [⟨S64x2048, F (Proc.devRef .tc main_v3)⟩, ⟨S64x2048, F (Proc.devRef .tc main_v4)⟩, ⟨S64x2048, F (Proc.devRef .tc main_v5)⟩, ⟨S64x2048, F (Proc.devRef .tc main_v6)⟩, ⟨S64x2048, F (Proc.devRef .tc main_v7)⟩, ⟨S64x2048, F (Proc.devRef .tc main_v8)⟩, ⟨S64x2048, F (Proc.devRef .tc main_v9)⟩, ⟨S64x2048, F (Proc.devRef .tc main_v10)⟩, ⟨S64x2048, F (Proc.devRef .tc main_v11)⟩, ⟨S64x2048, F (Proc.devRef .tc main_v12)⟩, ⟨S64x2048, F (Proc.devRef .tc main_v13)⟩, ⟨S64x2048, F (Proc.devRef .tc main_v14)⟩, ⟨S64x2048, F (Proc.devRef .tc main_v15)⟩, ⟨S64x2048, F (Proc.devRef .tc main_v16)⟩, ⟨S64x2048, F (Proc.devRef .tc main_v17)⟩, ⟨S64x2048, F (Proc.devRef .tc main_v18)⟩]

/-- The first branch's weights are these blocks. -/
theorem wba_joined (c : Dev nD) : (show FVec Ideal S1024x2048 .bf16 from V m c main_v20)
    = truncf .bf16 (show FVec Ideal S1024x2048 .f32 from concatenate (α := EReal) S1024x2048 0 (rows_a (front m 27 c)) concatenates_S64x2048_S64x2048_S64x2048_S64x2048_S64x2048_S64x2048_S64x2048_S64x2048_S64x2048_S64x2048_S64x2048_S64x2048_S64x2048_S64x2048_S64x2048_S64x2048_S1024x2048_d0) bitsLt_bf16_f32 := by
  show StableHlo.after (List.flatten [hostOps0, hostOps0_1, hostOps0_2, hostOps0_3, hostOps0_4]) (fun b => m (c, b)) (Proc.devRef .tc main_v20) = _
  rw [V_cut m 27 c]
  generalize front m 27 c = F
  simp only [hostOps0, hostOps0_1, hostOps0_2, hostOps0_3, hostOps0_4, List.drop_succ_cons, List.drop_zero,
    List.flatten_cons, List.flatten_nil, List.cons_append, List.nil_append, List.append_nil, StableHlo.TRef.unary,
    StableHlo.TRef.binary, StableHlo.TRef.nullary, StableHlo.TRef.toBuf, StableHlo.TRef.ofBuf, cast_eq]
  after_results
  rfl

/-- The block of head `h` of the first branch's weights. -/
theorem head_a (c : Dev nD) (h : Fin 8) : ∃ x : S64x2048.Idx → EReal,
    (rows_a (front m 27 c))[2 * h.val]'(by show 2 * h.val < 16; omega) = ⟨S64x2048, x⟩ ∧ ∀ (d : Fin 64) (n : Fin 2048),
      x (ix2 d n) = (show FVec Ideal S4x512x2048 .f32 from m ((c.tc : Thread nD τ).loc main_arg7)) (ix3 0 ⟨h.val * 64 + d.val, by omega⟩ n) := by
  fin_cases h <;>
  · refine ⟨_, rfl, fun d n => ?_⟩
    simp only [front, hostOps0, List.take_succ_cons, List.take_zero]
    after_results_simp
    pointwise

/-- The first branch's projection as the kernel is given it: the rows of its heads in the same slots. -/
theorem wba_entry (c : Dev nD) (h : Fin 8) (d : Fin 64) (n : Fin 2048) :
    (show FVec Ideal S1024x2048 .bf16 from V m c main_v20) (ix2 (⟨h.val * 128 + d.val, by omega⟩ : Fin 1024) n)
      = (show FVec Ideal S4x512x2048 .f32 from m ((c.tc : Thread nD τ).loc main_arg7)) (ix3 0 ⟨h.val * 64 + d.val, by omega⟩ n) := by
  obtain ⟨x, hx, e⟩ := head_a m c h
  rw [wba_joined, ← e]
  show concatenate (α := EReal) S1024x2048 0 (rows_a (front m 27 c)) concatenates_S64x2048_S64x2048_S64x2048_S64x2048_S64x2048_S64x2048_S64x2048_S64x2048_S64x2048_S64x2048_S64x2048_S64x2048_S64x2048_S64x2048_S64x2048_S64x2048_S1024x2048_d0 (ix2 (⟨h.val * 128 + d.val, by omega⟩ : Fin 1024) n) = _
  refine concatenate_apply_piece 0 (rows_a (front m 27 c)) concatenates_S64x2048_S64x2048_S64x2048_S64x2048_S64x2048_S64x2048_S64x2048_S64x2048_S64x2048_S64x2048_S64x2048_S64x2048_S64x2048_S64x2048_S64x2048_S64x2048_S1024x2048_d0
    (ix2 (⟨h.val * 128 + d.val, by omega⟩ : Fin 1024) n) (2 * h.val) _ S64x2048 x hx rfl (h.val * 128) ?_ (ix2 d n) ?_ rfl
  · rw [List.map_take, List.map_take]
    show ((List.replicate 16 64).take (2 * h.val)).sum = h.val * 128
    clear hx e x
    revert h
    decide
  · intro b hb
    fin_cases b
    · exact absurd rfl hb
    · rfl

/-- The blocks of 64 rows that the third branch's weights are joined from: a head, then zeros. -/
def rows_c (F : Valuation τ sig (Elt Ideal)) : List ((s : Shape) × (s.Idx → EReal)) :=
  [⟨S64x2048, F (Proc.devRef .tc main_v26)⟩, ⟨S64x2048, F (Proc.devRef .tc main_v27)⟩, ⟨S64x2048, F (Proc.devRef .tc main_v28)⟩, ⟨S64x2048, F (Proc.devRef .tc main_v29)⟩, ⟨S64x2048, F (Proc.devRef .tc main_v30)⟩, ⟨S64x2048, F (Proc.devRef .tc main_v31)⟩, ⟨S64x2048, F (Proc.devRef .tc main_v32)⟩, ⟨S64x2048, F (Proc.devRef .tc main_v33)⟩, ⟨S64x2048, F (Proc.devRef .tc main_v34)⟩, ⟨S64x2048, F (Proc.devRef .tc main_v35)⟩, ⟨S64x2048, F (Proc.devRef .tc main_v36)⟩, ⟨S64x2048, F (Proc.devRef .tc main_v37)⟩, ⟨S64x2048, F (Proc.devRef .tc main_v38)⟩, ⟨S64x2048, F (Proc.devRef .tc main_v39)⟩, ⟨S64x2048, F (Proc.devRef .tc main_v40)⟩, ⟨S64x2048, F (Proc.devRef .tc main_v41)⟩]

/-- The third branch's weights are these blocks. -/
theorem wbc_joined (c : Dev nD) : (show FVec Ideal S1024x2048 .bf16 from V m c main_v43)
    = truncf .bf16 (show FVec Ideal S1024x2048 .f32 from concatenate (α := EReal) S1024x2048 0 (rows_c (front m 58 c)) concatenates_S64x2048_S64x2048_S64x2048_S64x2048_S64x2048_S64x2048_S64x2048_S64x2048_S64x2048_S64x2048_S64x2048_S64x2048_S64x2048_S64x2048_S64x2048_S64x2048_S1024x2048_d0) bitsLt_bf16_f32 := by
  show StableHlo.after (List.flatten [hostOps0, hostOps0_1, hostOps0_2, hostOps0_3, hostOps0_4]) (fun b => m (c, b)) (Proc.devRef .tc main_v43) = _
  rw [V_cut m 58 c]
  generalize front m 58 c = F
  simp only [hostOps0, hostOps0_1, hostOps0_2, hostOps0_3, hostOps0_4, List.drop_succ_cons, List.drop_zero,
    List.flatten_cons, List.flatten_nil, List.cons_append, List.nil_append, List.append_nil, StableHlo.TRef.unary,
    StableHlo.TRef.binary, StableHlo.TRef.nullary, StableHlo.TRef.toBuf, StableHlo.TRef.ofBuf, cast_eq]
  after_results
  rfl

/-- The block of head `h` of the third branch's weights. -/
theorem head_c (c : Dev nD) (h : Fin 8) : ∃ x : S64x2048.Idx → EReal,
    (rows_c (front m 58 c))[2 * h.val]'(by show 2 * h.val < 16; omega) = ⟨S64x2048, x⟩ ∧ ∀ (d : Fin 64) (n : Fin 2048),
      x (ix2 d n) = (show FVec Ideal S4x512x2048 .f32 from m ((c.tc : Thread nD τ).loc main_arg7)) (ix3 2 ⟨h.val * 64 + d.val, by omega⟩ n) := by
  fin_cases h <;>
  · refine ⟨_, rfl, fun d n => ?_⟩
    simp only [front, hostOps0, List.take_succ_cons, List.take_zero]
    after_results_simp
    pointwise

/-- The third branch's projection as the kernel is given it: the rows of its heads in the same slots. -/
theorem wbc_entry (c : Dev nD) (h : Fin 8) (d : Fin 64) (n : Fin 2048) :
    (show FVec Ideal S1024x2048 .bf16 from V m c main_v43) (ix2 (⟨h.val * 128 + d.val, by omega⟩ : Fin 1024) n)
      = (show FVec Ideal S4x512x2048 .f32 from m ((c.tc : Thread nD τ).loc main_arg7)) (ix3 2 ⟨h.val * 64 + d.val, by omega⟩ n) := by
  obtain ⟨x, hx, e⟩ := head_c m c h
  rw [wbc_joined, ← e]
  show concatenate (α := EReal) S1024x2048 0 (rows_c (front m 58 c)) concatenates_S64x2048_S64x2048_S64x2048_S64x2048_S64x2048_S64x2048_S64x2048_S64x2048_S64x2048_S64x2048_S64x2048_S64x2048_S64x2048_S64x2048_S64x2048_S64x2048_S1024x2048_d0 (ix2 (⟨h.val * 128 + d.val, by omega⟩ : Fin 1024) n) = _
  refine concatenate_apply_piece 0 (rows_c (front m 58 c)) concatenates_S64x2048_S64x2048_S64x2048_S64x2048_S64x2048_S64x2048_S64x2048_S64x2048_S64x2048_S64x2048_S64x2048_S64x2048_S64x2048_S64x2048_S64x2048_S64x2048_S1024x2048_d0
    (ix2 (⟨h.val * 128 + d.val, by omega⟩ : Fin 1024) n) (2 * h.val) _ S64x2048 x hx rfl (h.val * 128) ?_ (ix2 d n) ?_ rfl
  · rw [List.map_take, List.map_take]
    show ((List.replicate 16 64).take (2 * h.val)).sum = h.val * 128
    clear hx e x
    revert h
    decide
  · intro b hb
    fin_cases b
    · exact absurd rfl hb
    · rfl

/-- The second branch's weights as the host hands them over. -/
theorem wbb_entry (c : Dev nD) (x : Fin 512) (n : Fin 2048) :
    (show FVec Ideal S512x2048 .bf16 from V m c main_v23) (ix2 x n)
      = (show FVec Ideal S4x512x2048 .f32 from m ((c.tc : Thread nD τ).loc main_arg7)) (ix3 1 x n) := by
  simp only [V, hostOps0, hostOps0_1, hostOps0_2, hostOps0_3, hostOps0_4,
    List.flatten_cons, List.flatten_nil, List.cons_append, List.nil_append, List.append_nil, StableHlo.TRef.unary,
    StableHlo.TRef.binary, StableHlo.TRef.nullary, StableHlo.TRef.toBuf, StableHlo.TRef.ofBuf, cast_eq]
  after_results_simp
  pointwise

/-- The fourth branch's weights as the host hands them over. -/
theorem wbd_entry (c : Dev nD) (x : Fin 512) (n : Fin 2048) :
    (show FVec Ideal S512x2048 .bf16 from V m c main_v46) (ix2 x n)
      = (show FVec Ideal S4x512x2048 .f32 from m ((c.tc : Thread nD τ).loc main_arg7)) (ix3 3 x n) := by
  simp only [V, hostOps0, hostOps0_1, hostOps0_2, hostOps0_3, hostOps0_4,
    List.flatten_cons, List.flatten_nil, List.cons_append, List.nil_append, List.append_nil, StableHlo.TRef.unary,
    StableHlo.TRef.binary, StableHlo.TRef.nullary, StableHlo.TRef.toBuf, StableHlo.TRef.ofBuf, cast_eq]
  after_results_simp
  pointwise

/-- The output weights as the host hands them over. -/
theorem wo_entry (c : Dev nD) (k n : Fin 2048) :
    (show FVec Ideal S2048x2048 .bf16 from V m c main_v47) (ix2 k n)
      = (show FVec Ideal S2048x2048 .f32 from m ((c.tc : Thread nD τ).loc main_arg8)) (ix2 k n) := by
  simp only [V, hostOps0, hostOps0_1, hostOps0_2, hostOps0_3, hostOps0_4,
    List.flatten_cons, List.flatten_nil, List.cons_append, List.nil_append, List.append_nil, StableHlo.TRef.unary,
    StableHlo.TRef.binary, StableHlo.TRef.nullary, StableHlo.TRef.toBuf, StableHlo.TRef.ofBuf, cast_eq]
  after_results_simp
  pointwise

/-- The norm's weights as the host hands them over. -/
theorem g_entry (c : Dev nD) (n : Fin 2048) :
    (show FVec Ideal S1x2048 .f32 from V m c main_v48) (ix2 0 n)
      = (show FVec Ideal S2048 .f32 from m ((c.tc : Thread nD τ).loc main_arg9)) (ix1 n) := by
  simp only [V, hostOps0, hostOps0_1, hostOps0_2, hostOps0_3, hostOps0_4,
    List.flatten_cons, List.flatten_nil, List.cons_append, List.nil_append, List.append_nil, StableHlo.TRef.unary,
    StableHlo.TRef.binary, StableHlo.TRef.nullary, StableHlo.TRef.toBuf, StableHlo.TRef.ofBuf, cast_eq]
  after_results_simp
  pointwise

/-- The block of the first branch's output, read from its array. -/
theorem ya_at (c : Dev nD) (t : Fin cfg0.N) (y0 : Fin 512) (r : Fin 16384) (er : r.val = t.val / 8 * 512 + (y0 : ℕ)) (x : Fin 1024) :
    (show FVec Ideal S512x1024 .bf16 from iblk m c 1 t) (ix2 y0 x)
      = (show FVec Ideal S16384x1024 .bf16 from V m c main_v53) (ix2 r x) := by
  have : iblk m c 1 t (ix2 y0 x) = V m c main_v53 (ix2 r x) := by blk_ext [iblk, idx t]
  exact this

/-- The block of the third branch's output, read from its array. -/
theorem yc_at (c : Dev nD) (t : Fin cfg0.N) (y0 : Fin 512) (r : Fin 16384) (er : r.val = t.val / 8 * 512 + (y0 : ℕ)) (x : Fin 1024) :
    (show FVec Ideal S512x1024 .bf16 from iblk m c 3 t) (ix2 y0 x)
      = (show FVec Ideal S16384x1024 .bf16 from V m c main_v58) (ix2 r x) := by
  have : iblk m c 3 t (ix2 y0 x) = V m c main_v58 (ix2 r x) := by blk_ext [iblk, idx t]
  exact this

/-- The block of the first branch's weights, read from the array the host hands over. -/
theorem wba_at (c : Dev nD) (t : Fin cfg0.N) (k : Fin 256) (k' : Fin 2048) (ek : k'.val = t.val % 8 * 256 + (k : ℕ)) (x : Fin 1024) :
    (show FVec Ideal S1024x256 .bf16 from iblk m c 7 t) (ix2 x k)
      = (show FVec Ideal S1024x2048 .bf16 from V m c main_v20) (ix2 x k') := by
  have : iblk m c 7 t (ix2 x k) = V m c main_v20 (ix2 x k') := by blk_ext [iblk, idx t]
  exact this

/-- The block of the second branch's weights, read from the array the host hands over. -/
theorem wbb_at (c : Dev nD) (t : Fin cfg0.N) (k : Fin 256) (k' : Fin 2048) (ek : k'.val = t.val % 8 * 256 + (k : ℕ)) (x : Fin 512) :
    (show FVec Ideal S512x256 .bf16 from iblk m c 8 t) (ix2 x k)
      = (show FVec Ideal S512x2048 .bf16 from V m c main_v23) (ix2 x k') := by
  have : iblk m c 8 t (ix2 x k) = V m c main_v23 (ix2 x k') := by blk_ext [iblk, idx t]
  exact this

/-- The block of the third branch's weights, read from the array the host hands over. -/
theorem wbc_at (c : Dev nD) (t : Fin cfg0.N) (k : Fin 256) (k' : Fin 2048) (ek : k'.val = t.val % 8 * 256 + (k : ℕ)) (x : Fin 1024) :
    (show FVec Ideal S1024x256 .bf16 from iblk m c 9 t) (ix2 x k)
      = (show FVec Ideal S1024x2048 .bf16 from V m c main_v43) (ix2 x k') := by
  have : iblk m c 9 t (ix2 x k) = V m c main_v43 (ix2 x k') := by blk_ext [iblk, idx t]
  exact this

/-- The block of the fourth branch's weights, read from the array the host hands over. -/
theorem wbd_at (c : Dev nD) (t : Fin cfg0.N) (k : Fin 256) (k' : Fin 2048) (ek : k'.val = t.val % 8 * 256 + (k : ℕ)) (x : Fin 512) :
    (show FVec Ideal S512x256 .bf16 from iblk m c 10 t) (ix2 x k)
      = (show FVec Ideal S512x2048 .bf16 from V m c main_v46) (ix2 x k') := by
  have : iblk m c 10 t (ix2 x k) = V m c main_v46 (ix2 x k') := by blk_ext [iblk, idx t]
  exact this

/-- The block of the gate weights, read from the array the host hands over. -/
theorem wg_at (c : Dev nD) (t : Fin cfg0.N) (k : Fin 256) (k' : Fin 2048) (ek : k'.val = t.val % 8 * 256 + (k : ℕ)) (b : Fin 4) (q : Fin 2048) :
    (show FVec Ideal S4x2048x256 .bf16 from iblk m c 6 t) (ix3 b q k)
      = (show FVec Ideal S4x2048x2048 .f32 from m ((c.tc : Thread nD τ).loc main_arg6)) (ix3 b q k') := by
  blk_point [iblk, V, idx t]

/-- The block of the output weights, read from the array the host hands over. -/
theorem wo_at (c : Dev nD) (t : Fin cfg0.N) (k : Fin 256) (k' : Fin 2048) (ek : k'.val = t.val % 8 * 256 + (k : ℕ)) (n : Fin 2048) :
    (show FVec Ideal S256x2048 .bf16 from iblk m c 11 t) (ix2 k n)
      = (show FVec Ideal S2048x2048 .f32 from m ((c.tc : Thread nD τ).loc main_arg8)) (ix2 k' n) := by
  have : iblk m c 11 t (ix2 k n) = V m c main_v47 (ix2 k' n) := by blk_ext [iblk, idx t]
  exact this.trans (wo_entry m c k' n)

/-- The bias block is the whole bias array. -/
theorem g_at (c : Dev nD) (t : Fin cfg0.N) (l : Fin 2048) :
    (show FVec Ideal S1x2048 .f32 from iblk m c 12 t) (ix2 0 l)
      = (show FVec Ideal S2048 .f32 from m ((c.tc : Thread nD τ).loc main_arg9)) (ix1 l) := by
  have : iblk m c 12 t (ix2 0 l) = V m c main_v48 (ix2 0 l) := by blk_ext [iblk, idx t]
  exact this.trans (g_entry m c l)

/-- The first branch's projection over the padded slots is the plain contraction over its 512 lanes. -/
theorem proj_ya (c : Dev nD) (t : Fin cfg0.N) (y0 : Fin 512) (r : Fin 16384) (er : r.val = t.val / 8 * 512 + (y0 : ℕ))
    (k : Fin 256) (k' : Fin 2048) (ek : k'.val = t.val % 8 * 256 + (k : ℕ)) :
    ∑ q : Fin 1024, (show FVec Ideal S512x1024 .bf16 from iblk m c 1 t) (ix2 y0 q) * (show FVec Ideal S1024x256 .bf16 from iblk m c 7 t) (ix2 q k)
      = ∑ q : Fin 512, (show FVec Ideal S16384x512 .f32 from m ((c.tc : Thread nD τ).loc main_arg1)) (ix2 r q)
          * (show FVec Ideal S4x512x2048 .f32 from m ((c.tc : Thread nD τ).loc main_arg7)) (ix3 0 q k') := by
  refine sum_slots _ _ (fun h d => ?_) (fun x hx => ?_)
  · have e1 : (h.val * 128 + d.val) / 128 = h.val := by omega
    have e2 : (h.val * 128 + d.val) % 128 = d.val := by omega
    refine congrArg₂ (· * ·) ?_ ?_
    · rw [ya_at m c t y0 r er, ya_entry]
      refine (dif_pos ⟨by show (h.val * 128 + d.val) / 128 < 8; omega, by show (h.val * 128 + d.val) % 128 < 64; omega⟩).trans ?_
      exact congrArg _ (congrArg (ix2 r) (Fin.ext (by show (h.val * 128 + d.val) / 128 * 64 + (h.val * 128 + d.val) % 128 = _; rw [e1, e2])))
    · rw [wba_at m c t k k' ek, wba_entry]
  · rw [ya_at m c t y0 r er, ya_entry]
    rw [dif_neg (fun h => absurd h.2 (by omega)), zero_mul]

/-- The third branch's projection over the padded slots is the plain contraction over its 512 lanes. -/
theorem proj_yc (c : Dev nD) (t : Fin cfg0.N) (y0 : Fin 512) (r : Fin 16384) (er : r.val = t.val / 8 * 512 + (y0 : ℕ))
    (k : Fin 256) (k' : Fin 2048) (ek : k'.val = t.val % 8 * 256 + (k : ℕ)) :
    ∑ q : Fin 1024, (show FVec Ideal S512x1024 .bf16 from iblk m c 3 t) (ix2 y0 q) * (show FVec Ideal S1024x256 .bf16 from iblk m c 9 t) (ix2 q k)
      = ∑ q : Fin 512, (show FVec Ideal S16384x512 .f32 from m ((c.tc : Thread nD τ).loc main_arg3)) (ix2 r q)
          * (show FVec Ideal S4x512x2048 .f32 from m ((c.tc : Thread nD τ).loc main_arg7)) (ix3 2 q k') := by
  refine sum_slots _ _ (fun h d => ?_) (fun x hx => ?_)
  · have e1 : (h.val * 128 + d.val) / 128 = h.val := by omega
    have e2 : (h.val * 128 + d.val) % 128 = d.val := by omega
    refine congrArg₂ (· * ·) ?_ ?_
    · rw [yc_at m c t y0 r er, yc_entry]
      refine (dif_pos ⟨by show (h.val * 128 + d.val) / 128 < 8; omega, by show (h.val * 128 + d.val) % 128 < 64; omega⟩).trans ?_
      exact congrArg _ (congrArg (ix2 r) (Fin.ext (by show (h.val * 128 + d.val) / 128 * 64 + (h.val * 128 + d.val) % 128 = _; rw [e1, e2])))
    · rw [wbc_at m c t k k' ek, wbc_entry]
  · rw [yc_at m c t y0 r er, yc_entry]
    rw [dif_neg (fun h => absurd h.2 (by omega)), zero_mul]

/-- One step's contribution, in the argument arrays: 256 columns of the merged branches against the output projection. -/
theorem part_eq (c : Dev nD) (t : Fin cfg0.N) (y0 : Fin 512) (n : Fin 2048) (r : Fin 16384) (er : r.val = t.val / 8 * 512 + (y0 : ℕ))
    (f : Fin 256 → EReal)
    (hf : ∀ (k : Fin 256) (k' : Fin 2048), k'.val = t.val % 8 * 256 + (k : ℕ) → f k =
      mixed (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg6))
        (m ((c.tc : Thread nD τ).loc main_arg7)) r k'
        * (show FVec Ideal S2048x2048 .f32 from m ((c.tc : Thread nD τ).loc main_arg8)) (ix2 k' n)) :
    part m c t (ix2 y0 n) = ∑ k, f k := by
  refine Finset.sum_congr rfl fun k _ => ?_
  have hlt : t.val % 8 * 256 + k.val < 2048 := by omega
  rw [hf k ⟨t.val % 8 * 256 + k.val, hlt⟩ rfl]
  have gates : ∀ b : Fin 4, (∑ q : Fin 2048, (show FVec Ideal S512x2048 .bf16 from iblk m c 0 t) (ix2 y0 q)
      * (show FVec Ideal S4x2048x256 .bf16 from iblk m c 6 t) (ix3 b q k)) = _ := fun b =>
    Finset.sum_congr rfl fun q _ => congrArg₂ (· * ·) (u_at m c t y0 r er q) (wg_at m c t k ⟨_, hlt⟩ rfl b q)
  refine congrArg₂ (· * ·) ?_ (wo_at m c t k ⟨_, hlt⟩ rfl n)
  unfold mixed
  refine congrArg₂ (· + ·) (congrArg₂ (· + ·) (congrArg₂ (· + ·) ?_ ?_) ?_) ?_
  · exact congrArg₂ (fun a b => gate a * b) (gates 0) (proj_ya m c t y0 r er k ⟨_, hlt⟩ rfl)
  · refine congrArg₂ (fun a b => gate a * b) (gates 1) (Finset.sum_congr rfl fun q _ => congrArg₂ (· * ·) (yb_at m c t y0 r er q) ?_)
    exact (wbb_at m c t k ⟨_, hlt⟩ rfl q).trans (wbb_entry m c q ⟨_, hlt⟩)
  · exact congrArg₂ (fun a b => gate a * b) (gates 2) (proj_yc m c t y0 r er k ⟨_, hlt⟩ rfl)
  · refine congrArg₂ (fun a b => gate a * b) (gates 3) (Finset.sum_congr rfl fun q _ => congrArg₂ (· * ·) (yd_at m c t y0 r er q) ?_)
    exact (wbd_at m c t k ⟨_, hlt⟩ rfl q).trans (wbd_entry m c q ⟨_, hlt⟩)

/-- What the last step of a row block writes out: residual plus normalised accumulator. -/
theorem out_last (c : Dev nD) (t : Fin cfg0.N) (hr : t.val % 8 = 7) :
    (outsAt0 m c t.val t.isLt).1
      = k0_pay2 (F := Ideal) (iblk m c 5 t) (outsAt0 m c t.val t.isLt).2 (iblk m c 12 t) := by
  rw [outsAt0_C m c t (by omega) hr]
  frame_out

/-- A written block, in the argument arrays. -/
theorem block_eq (c : Dev nD) (t : Fin cfg0.N) (hr : t.val % 8 = 7) (y : S512x2048.Idx) (r : Fin 16384) (l : Fin 2048)
    (er : r.val = t.val / 8 * 512 + (y 0 : ℕ)) (el : l.val = (y 1 : ℕ)) :
    k0_pay2 (F := Ideal) (iblk m c 5 t) (outsAt0 m c t.val t.isLt).2 (iblk m c 12 t) y
      = spec (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) r l := by
  idx_vars y
  rw [pay2_at]
  unfold spec
  have el' : y1 = l := Fin.ext el.symm
  subst el'
  refine congrArg₂ (· + ·) (x_at m c t y0 r er y1) ?_
  refine congrArg₂ (fun a b => rms a b y1) (funext fun n => ?_) (funext fun l => g_at m c t l)
  rw [acc_last m c t hr, zero_add]
  refine (Fin.sum_fin_congr fun s => ?_).trans (Fin.sum_mul_add_fin 8 256 _)
  have hs := Pipeline.run_point_lt_of_flush t hr s
  have hd : (8 * (t.val / 8) + s.val) / 8 = t.val / 8 := by omega
  have hm : (8 * (t.val / 8) + s.val) % 8 = s.val := by omega
  refine part_eq m c ⟨8 * (t.val / 8) + s.val, hs⟩ y0 n r (by show _ = (8 * (t.val / 8) + s.val) / 8 * 512 + _; rw [hd]; exact er) _
    (fun k k' ek => ?_)
  have hk : k' = ⟨s.val * 256 + k.val, by omega⟩ := Fin.ext (by rw [ek]; show (8 * (t.val / 8) + s.val) % 8 * 256 + _ = _; rw [hm])
  rw [hk]

/-- The program's result array is `spec` of its argument arrays. -/
theorem final (c : Dev nD) : (dats m 0 c).arrAt 13 cfg0.N
    = fun j : S16384x2048.Idx => spec (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) (j 0) (j 1) := by
  refine (dats m 0 c).arrAt_eq_of_covers 13 _ (by decide +kernel) fun t hf y => ?_
  have hr := (flush0_13 t).mp hf
  blk_simp
  rw [after0_13, out_last m c t hr]
  refine block_eq m c t hr y _ _ ?_ ?_
  · blk_simp [idx t]
  · blk_simp [idx t]

end Cert.MergeIdeal.Maths

end
-- ==== Proof.MergeRefValue.lean ====
module

public import proofs.«01_k».proof.Proof.MergeValue
public import proofs.«01_k».proof.Proof.Gen.MergeRefIdeal.Run

@[expose] public section

set_option maxRecDepth 16384

noncomputable section

namespace Cert.MergeRefIdeal.Maths

open Idealize.ShloMosaic Idealize.ShloMosaic.TcCoe Idealize.SL.Sem
open Cert.MergeRefIdeal Cert.MergeRefIdeal.Gen

variable (m : (ℓ : Loc nD τ sig) → Buf (Elt Ideal) ℓ)

/-- The reference's result, read at row `r` and lane `l`, is the same `spec` of its argument arrays. -/
theorem ref_at (c : Dev nD) (r : Fin 16384) (l : Fin 2048) :
    (show FVec Ideal S16384x2048 .f32 from Cert.MergeRefIdeal.Value.res_out0 m c) (ix2 r l)
      = Cert.MergeIdeal.Maths.spec (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) r l := by
  unfold Cert.MergeIdeal.Maths.spec Cert.MergeIdeal.Maths.mixed Cert.MergeIdeal.Maths.branch Cert.Common.rms Cert.Common.gate
  unfold Cert.MergeRefIdeal.Value.res_out0
  pointwise [Cert.MergeRefIdeal.Value.res_main_v69]

/-- On memories that agree on the arguments the reference's result is the kernel's result array. -/
theorem tie (m' : (ℓ : Loc nD τ sig) → Buf (Elt Ideal) ℓ)
    (m : (ℓ : Loc Cert.MergeIdeal.nD Cert.MergeIdeal.τ Cert.MergeIdeal.sig) → Buf (Elt Ideal) ℓ) (c : Dev nD)
    (h0 : m' ((c.tc : Thread nD τ).loc Cert.MergeRefIdeal.main_arg0) = m ((c.tc : Thread nD τ).loc Cert.MergeIdeal.main_arg0))
    (h1 : m' ((c.tc : Thread nD τ).loc Cert.MergeRefIdeal.main_arg1) = m ((c.tc : Thread nD τ).loc Cert.MergeIdeal.main_arg1))
    (h2 : m' ((c.tc : Thread nD τ).loc Cert.MergeRefIdeal.main_arg2) = m ((c.tc : Thread nD τ).loc Cert.MergeIdeal.main_arg2))
    (h3 : m' ((c.tc : Thread nD τ).loc Cert.MergeRefIdeal.main_arg3) = m ((c.tc : Thread nD τ).loc Cert.MergeIdeal.main_arg3))
    (h4 : m' ((c.tc : Thread nD τ).loc Cert.MergeRefIdeal.main_arg4) = m ((c.tc : Thread nD τ).loc Cert.MergeIdeal.main_arg4))
    (h5 : m' ((c.tc : Thread nD τ).loc Cert.MergeRefIdeal.main_arg5) = m ((c.tc : Thread nD τ).loc Cert.MergeIdeal.main_arg5))
    (h6 : m' ((c.tc : Thread nD τ).loc Cert.MergeRefIdeal.main_arg6) = m ((c.tc : Thread nD τ).loc Cert.MergeIdeal.main_arg6))
    (h7 : m' ((c.tc : Thread nD τ).loc Cert.MergeRefIdeal.main_arg7) = m ((c.tc : Thread nD τ).loc Cert.MergeIdeal.main_arg7))
    (h8 : m' ((c.tc : Thread nD τ).loc Cert.MergeRefIdeal.main_arg8) = m ((c.tc : Thread nD τ).loc Cert.MergeIdeal.main_arg8))
    (h9 : m' ((c.tc : Thread nD τ).loc Cert.MergeRefIdeal.main_arg9) = m ((c.tc : Thread nD τ).loc Cert.MergeIdeal.main_arg9)) :
    (show FVec Ideal S16384x2048 .f32 from Cert.MergeRefIdeal.Value.res_out0 m' c)
      = (Cert.MergeIdeal.Gen.dats m 0 c).arrAt 13 Cert.MergeIdeal.cfg0.N := by
  rw [Cert.MergeIdeal.Maths.final m c]
  funext j
  idx_vars j
  refine (ref_at m' c j0 j1).trans ?_
  rw [h0, h1, h2, h3, h4, h5, h6, h7, h8, h9]

end Cert.MergeRefIdeal.Maths

end
-- ==== Proof.InprojIdealFrame.lean ====
module

public import proofs.«01_k».proof.Proof.Gen.InprojIdeal.Launch
public import proofs.«01_k».proof.Proof.Gen.InprojIdeal.Skeleton
public import proofs.«01_k».proof.Proof.Gen.InprojIdeal.Points
public import Idealize.ShloMosaic.Lib.Pipeline.FrameBody
public import Idealize.ShloMosaic.Lib.Pipeline.FrameSuffix
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 350000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_InprojIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 21) — by arithmetic of the point. -/
theorem hcond0_0 : ∀ t : Fin cfg0.N, cond0_0 (grid0.coords t) ↔ t.val % 21 = 0 :=
  (fun t => by
    have ht : t.val < 336 := Nat.lt_of_lt_of_eq t.isLt N_0
    have e0 : (grid0.coords t 0).val = t.val / 21 % 16 := Pipeline.Grid.coords_val t 0 (by decide) rfl
    have e1 : (grid0.coords t 1).val = t.val / 1 % 21 := Pipeline.Grid.coords_val t 1 (by decide) rfl
    simp only [cond0_0, k0_cond1, e0, e1]
    word_cmp
   : ∀ t : Fin grid0.N, cond0_0 (grid0.coords t) ↔ t.val % 21 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 4 is never idle (an output stored at every point, under no condition). -/
theorem liveAt0_4 : ∀ t : Fin cfg0.N, cfg0.idle 4 (grid0.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0x800004000020000100000800004000020000100000800004000020000100000800004000020000100000 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the first point of a row of the grid the normalised rows are stored. -/
theorem liveAt0_3_A : ∀ t : Fin cfg0.N, cond0_0 (grid0.coords t) → cfg0.idle 3 (grid0.coords t) = false := by decide +kernel
/-- At the other points nothing is stored into the block of normalised rows. -/
theorem idleAt0_3_B : ∀ t : Fin cfg0.N, ¬cond0_0 (grid0.coords t) → cfg0.idle 3 (grid0.coords t) = true := by decide +kernel
/-- At those points the block still holds what the row's first point stored. -/
theorem notFresh0_3_B : ∀ t : Fin cfg0.N, ¬cond0_0 (grid0.coords t) → cfg0.fresh 3 t.val = false := by
  intro t; rw [fresh0_3_eq t]; revert t; decide +kernel

/-! ## The kernel body on any staging memrefs: a subtype the run finds -/

/-- One staging buffer of output window 3, through which its contents are stated (`View.read_writes_of_cover`: the
    choice does not matter). -/
abbrev VO0_3 : View sig .tc .vmem S1024x2048 .bf16 := (Memref.whole cc0_stg3_0 : Memref sig .tc .vmem S1024x2048 .bf16).view
/-- One staging buffer of output window 4, through which its contents are stated (`View.read_writes_of_cover`: the
    choice does not matter). -/
abbrev VO0_4 : View sig .tc .vmem S1024x512 .f32 := (Memref.whole cc0_stg4_0 : Memref sig .tc .vmem S1024x512 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1024x2048 .bf16 := Memref.whole cc0_scratch0
/-- The scratch `arg7` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- The body at the first point of a row of the grid: from the three input blocks it runs to its end and leaves the inputs
    as they were, with the pieces that its stores put into both outputs and the scratch. -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : cond0_0 i)
    (x0 : Vec F S1024x2048 .f32) (x1 : Vec F S1x2048 .f32) (x2 : Vec F S2048x512 .bf16) :
    Σ' (L3 : List (View.Piece (Elt F) S1024x2048 .bf16)), Σ' (L4 : List (View.Piece (Elt F) S1024x512 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_inproj i arg2 harg2 arg3 harg3 arg4 harg4 arg5 harg5 arg6 harg6 arg7 harg7) K } := by
  refine ⟨?_, ?_, ?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

-- (the run's proof term is large: the definition's epilogue — `abstractNestedProofs` — walks it past the default budget)
set_option maxHeartbeats 1000000 in
/-- The body at the other points: the scratch is read, the product stored, and the block of normalised rows left as it was. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : ¬cond0_0 i)
    (x0 : Vec F S1024x2048 .f32) (x1 : Vec F S1x2048 .f32) (x2 : Vec F S2048x512 .bf16) (xo3 : Vec F S1024x2048 .bf16) (xs0 : Vec F S1024x2048 .bf16) :
    { L4 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xo3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc0_inproj i arg2 harg2 arg3 harg3 arg4 harg4 arg5 harg5 arg6 harg6 arg7 harg7) K } := by
  refine ⟨?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

/-- What the first point stores as the normalised rows: the store covers the block. -/
theorem uA_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : cond0_0 i)
    (x0 : Vec F S1024x2048 .f32) (x1 : Vec F S1x2048 .f32) (x2 : Vec F S2048x512 .bf16) (y : S1024x2048.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1024x2048.size (by sl_kernel_rfl) y

/-- What the first point stores as the normalised rows, read back. -/
theorem uA_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : cond0_0 i)
    (x0 : Vec F S1024x2048 .f32) (x1 : Vec F S1x2048 .f32) (x2 : Vec F S2048x512 .bf16) :
    VO0_3.read (Elt F) (VO0_3.writes (Elt F) VO0_3.junk (kernelRun0_A c i arg2 harg2 arg3 harg3 arg4 harg4 arg5 harg5 arg6 harg6 arg7 harg7 hc0 x0 x1 x2).1) = k0_pay1 x0 x1 := by
  frame_out

/-- What the first point stores as the product: the store covers the block. -/
theorem pA_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : cond0_0 i)
    (x0 : Vec F S1024x2048 .f32) (x1 : Vec F S1x2048 .f32) (x2 : Vec F S2048x512 .bf16) (y : S1024x512.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1024x512.size (by sl_kernel_rfl) y

/-- What the first point stores as the product, read back. -/
theorem pA_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : cond0_0 i)
    (x0 : Vec F S1024x2048 .f32) (x1 : Vec F S1x2048 .f32) (x2 : Vec F S2048x512 .bf16) :
    VO0_4.read (Elt F) (VO0_4.writes (Elt F) VO0_4.junk (kernelRun0_A c i arg2 harg2 arg3 harg3 arg4 harg4 arg5 harg5 arg6 harg6 arg7 harg7 hc0 x0 x1 x2).2.1) = k0_pay3 (k0_pay2 x0 x1) x2 := by
  frame_out

/-- What the first point stores into the scratch: the store covers the block. -/
theorem sA_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : cond0_0 i)
    (x0 : Vec F S1024x2048 .f32) (x1 : Vec F S1x2048 .f32) (x2 : Vec F S2048x512 .bf16) (y : S1024x2048.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1024x2048.size (by sl_kernel_rfl) y

/-- What the first point stores into the scratch, read back. -/
theorem sA_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : cond0_0 i)
    (x0 : Vec F S1024x2048 .f32) (x1 : Vec F S1x2048 .f32) (x2 : Vec F S2048x512 .bf16) :
    VS0_0.read (Elt F) (VS0_0.writes (Elt F) VS0_0.junk (kernelRun0_A c i arg2 harg2 arg3 harg3 arg4 harg4 arg5 harg5 arg6 harg6 arg7 harg7 hc0 x0 x1 x2).2.2.1) = k0_pay2 x0 x1 := by
  frame_out

/-- What a later point stores as the product: the store covers the block. -/
theorem pB_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : ¬cond0_0 i)
    (x0 : Vec F S1024x2048 .f32) (x1 : Vec F S1x2048 .f32) (x2 : Vec F S2048x512 .bf16) (xo3 : Vec F S1024x2048 .bf16) (xs0 : Vec F S1024x2048 .bf16) (y : S1024x512.Idx) :
    ∃ pc ∈ (kernelRun0_B c i arg2 harg2 arg3 harg3 arg4 harg4 arg5 harg5 arg6 harg6 arg7 harg7 hc0 x0 x1 x2 xo3 xs0).1, y ∈ pc.1.set :=
  View.cover_of_tiledL (kernelRun0_B c i arg2 harg2 arg3 harg3 arg4 harg4 arg5 harg5 arg6 harg6 arg7 harg7 hc0 x0 x1 x2 xo3 xs0).1 S1024x512.size (by sl_kernel_rfl) y

/-- What a later point stores as the product, read back. -/
theorem pB_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x2048 .bf16) (harg5 : arg5.IsWhole) (arg6 : Memref sig .tc .vmem S1024x512 .f32) (harg6 : arg6.IsWhole) (arg7 : Memref sig .tc .vmem S1024x2048 .bf16) (harg7 : arg7.IsWhole) (hc0 : ¬cond0_0 i)
    (x0 : Vec F S1024x2048 .f32) (x1 : Vec F S1x2048 .f32) (x2 : Vec F S2048x512 .bf16) (xo3 : Vec F S1024x2048 .bf16) (xs0 : Vec F S1024x2048 .bf16) :
    VO0_4.read (Elt F) (VO0_4.writes (Elt F) VO0_4.junk (kernelRun0_B c i arg2 harg2 arg3 harg3 arg4 harg4 arg5 harg5 arg6 harg6 arg7 harg7 hc0 x0 x1 x2 xo3 xs0).1) = k0_pay3 xs0 x2 := by
  frame_out

/-- Which block each window reads at point `t`: row block `t / 21`, column block `t % 21`. -/
theorem idx : ∀ t : Fin cfg0.N, win0_0.index t = ![t.val / 21, 0] ∧ win0_1.index t = ![0, 0]
    ∧ win0_2.index t = ![0, t.val % 21] ∧ win0_3.index t = ![t.val / 21, 0] ∧ win0_4.index t = ![t.val / 21, t.val % 21] :=
  (by decide +kernel : ∀ t : Fin grid0.N, _)

/-- The rows a grid point reads are the same all along its inner axis. -/
theorem blk0_pred (c : Dev nD) (t s : Fin cfg0.N) (h : s.val / 21 = t.val / 21) : iblk m c 0 s = iblk m c 0 t := by
  funext y
  have hs := idx s
  have ht := idx t
  blk_ext [iblk, idx t, idx s]

/-- The norm's weights are the same at every grid point. -/
theorem blk1_pred (c : Dev nD) (t s : Fin cfg0.N) : iblk m c 1 s = iblk m c 1 t := by
  funext y
  blk_ext [iblk, idx t, idx s]

/-- The normalised rows of point `t`'s row block, as they are stored to the result. -/
abbrev uAt (c : Dev nD) (t : Fin cfg0.N) : FVec F S1024x2048 .bf16 := k0_pay1 (iblk m c 0 t) (iblk m c 1 t)

/-- The same rows as they are stored to the scratch. -/
abbrev sAt (c : Dev nD) (t : Fin cfg0.N) : FVec F S1024x2048 .bf16 := k0_pay2 (iblk m c 0 t) (iblk m c 1 t)

/-- Along a row of the grid the normalised rows do not change. -/
theorem uAt_pred (c : Dev nD) (t s : Fin cfg0.N) (h : s.val / 21 = t.val / 21) : uAt m c s = uAt m c t := by
  unfold uAt; rw [blk0_pred m c t s h, blk1_pred m c t s]

/-- Nor does the scratch. -/
theorem sAt_pred (c : Dev nD) (t s : Fin cfg0.N) (h : s.val / 21 = t.val / 21) : sAt m c s = sAt m c t := by
  unfold sAt; rw [blk0_pred m c t s h, blk1_pred m c t s]

/-- What holds before position `n`: at first the scratch holds anything, afterwards the normalised rows of the point before. -/
def PhiS (c : Dev nD) : (n : ℕ) → n ≤ cfg0.N → sProp 𝕄
  | 0, _ => Pipeline.ΦA spec0 c
  | n + 1, hn => iprop(iprop(owns (c : Thread nD τ) scM0_0 fullShare (sAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (sAt m c t)) ∗ (∃ r, prngReg c r)) := rfl

theorem PhiS_pos (c : Dev nD) (n : ℕ) (h : n ≤ cfg0.N) (hz : n ≠ 0) :
    PhiS m c n h = iprop(iprop(owns (c : Thread nD τ) scM0_0 fullShare (sAt m c ⟨n - 1, by omega⟩)) ∗ (∃ r, prngReg c r)) := by
  cases n with
  | zero => exact absurd rfl hz
  | succ n => rfl

/-- The proof data: each input's buffer holds its block, the outputs' the normalised rows and their product with the weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => uAt m c t
    | ⟨4, _⟩ => k0_pay3 (sAt m c t) (iblk m c 2 t)
  Φ t := PhiS m c t.val (Nat.le_of_lt_succ t.isLt)
  q _ := fullShare
  owed _ := 0

/-- The proof data's arrays are the region-entry contents: the proof data's definition projected (`dsimp`), so that
    `V`  — a fold over the host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = uAt m c t := by dsimp only [dats]
theorem after0_4 (c : Dev nD) (t : Fin cfg0.N) : (dats m 0 c).after 4 t = k0_pay3 (sAt m c t) (iblk m c 2 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where nothing is stored into the block of normalised rows, it is the point before's. -/
theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  rw [after0_3, after0_3]
  by_cases h0 : t.val % 21 = 0
  · rw [liveAt0_3_A t ((hcond0_0 t).mpr h0)] at hi
    exact absurd hi Bool.false_ne_true
  · exact (uAt_pred m c t ⟨t.val - 1, by omega⟩ (by show (t.val - 1) / 21 = t.val / 21; omega)).symm

/-- At a later point of a row the block of normalised rows holds what the first point stored. -/
theorem before0_3_B (c : Dev nD) (t : Fin cfg0.N) (h0 : ¬t.val % 21 = 0) (d) : (dats m 0 c).before 3 t d = uAt m c t := by
  rw [Dat.before_out_traj _ 3 rfl (fun _ _ => rfl) (hcarry0_3 m c) t.val t rfl d,
    if_neg (by rw [notFresh0_3_B t (fun h => h0 ((hcond0_0 t).mp h))]; exact Bool.false_ne_true), after0_3]
  exact uAt_pred m c t ⟨t.val - 1, by omega⟩ (by show (t.val - 1) / 21 = t.val / 21; omega)

/-- So the block is handed on holding the normalised rows, written back there or not. -/
theorem leaves0_3_B (c : Dev nD) (t : Fin cfg0.N) (h0 : ¬t.val % 21 = 0) :
    owns (c : Thread nD τ) (ms0_3 t) fullShare (uAt m c t) ⊢ ((dats m 0 c).leavesExact 3 t : sProp 𝕄) := by
  have hi := idleAt0_3_B t (fun h => h0 ((hcond0_0 t).mp h))
  cases hf : (cfg0.win 3).flush t
  · rw [Dat.leavesExact_idle _ 3 t hi hf]
    simp only [before0_3_B m c t h0]
    iintro H
    iexists (uAt m c t)
    iexact H
  · rw [show (dats m 0 c).leavesExact 3 t = owns (c : Thread nD τ) (ms0_3 t) fullShare ((dats m 0 c).after 3 t) from by
      unfold Dat.leavesExact; rw [hi, hf], after0_3]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 3200000 in
/-- The body at any point, from what the point before left to what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 4 t = owns (c : Thread nD τ) (ms0_4 t) fullShare ((dats m 0 c).after 4 t) from by
      unfold Dat.leavesExact; rw [liveAt0_4 t], after0_4]
  by_cases h0 : t.val % 21 = 0
  · rw [show (dats m 0 c).leavesExact 3 t = owns (c : Thread nD τ) (ms0_3 t) fullShare ((dats m 0 c).after 3 t) from by
      unfold Dat.leavesExact; rw [liveAt0_3_A t ((hcond0_0 t).mpr h0)], after0_3]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (sA_cover c _ _ _ _ _ _ _ _ _ _ _ _ _ _ _ _ _)).trans (sA_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (uA_cover c _ _ _ _ _ _ _ _ _ _ _ _ _ _ _ _ _)).trans (uA_eq c _ _ _ _ _ _ _ _ _ _ _ _ _ _ _ _ _)
      unfold owns; iexists _; isplitr
      swap; · iexact H4
      ipureintro; exact (View.read_writes_of_cover _ _ _ _ _ (pA_cover c _ _ _ _ _ _ _ _ _ _ _ _ _ _ _ _ _)).trans (pA_eq c _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (sA_cover c _ _ _ _ _ _ _ _ _ _ _ _ _ _ _ _ _)).trans (sA_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (uA_cover c _ _ _ _ _ _ _ _ _ _ _ _ _ _ _ _ _)).trans (uA_eq c _ _ _ _ _ _ _ _ _ _ _ _ _ _ _ _ _)
      unfold owns; iexists _; isplitr
      swap; · iexact H4
      ipureintro; exact (View.read_writes_of_cover _ _ _ _ _ (pA_cover c _ _ _ _ _ _ _ _ _ _ _ _ _ _ _ _ _)).trans (pA_eq c _ _ _ _ _ _ _ _ _ _ _ _ _ _ _ _ _)
  · have hz : t.val ≠ 0 := fun h => h0 (by rw [h])
    rw [PhiS_castSucc m c t, PhiS_pos m c _ _ hz,
      sAt_pred m c t ⟨t.val - 1, by omega⟩ (by show (t.val - 1) / 21 = t.val / 21; omega)]
    simp only [before0_3_B m c t h0]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (uAt m c t) (sAt m c t)).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iapply (leaves0_3_B m c t h0); iexact H3
    unfold owns; iexists _; isplitr
    swap; · iexact H4
    ipureintro; exact (View.read_writes_of_cover _ _ _ _ _ (pB_cover c _ _ _ _ _ _ _ _ _ _ _ _ _ _ _ _ _ _ _)).trans (pB_eq c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 336 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_InprojIdeal`'s statement (Defs.lean) at any `F` — Proof.lean cites it at `Bits`:
    `theorem Cert.Proof.claim : Cert.Claim := ⟨Cert.InprojIdeal.Gen.facts, fun m ρ _ => Cert.InprojIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InprojIdeal.Gen

end
-- ==== Proof.InprojValue.lean ====
module

public import proofs.«01_k».proof.Proof.InprojIdealFrame
public import proofs.«01_k».proof.Proof.Common

@[expose] public section

set_option maxRecDepth 16384

noncomputable section

namespace Cert.InprojIdeal.Maths

open Idealize.ShloMosaic Idealize.ShloMosaic.TcCoe Idealize.SL.Sem
open Idealize.ShloMosaic.Pipeline (Dat)
open Cert.InprojIdeal Cert.InprojIdeal.Gen Cert.Common

variable (m : (ℓ : Loc nD τ sig) → Buf (Elt Ideal) ℓ)

/-- The kernel's normalised row block is `rms` of each row. -/
theorem pay1_at (x : FVec Ideal S1024x2048 .f32) (g : FVec Ideal S1x2048 .f32) (r : Fin 1024) (l : Fin 2048) :
    k0_pay1 (F := Ideal) x g (ix2 r l) = rms (fun l => x (ix2 r l)) (fun l => g (ix2 0 l)) l := by
  pointwise [k0_pay1, rms]

/-- The copy of it that the kernel keeps is the same. -/
theorem pay2_at (x : FVec Ideal S1024x2048 .f32) (g : FVec Ideal S1x2048 .f32) (r : Fin 1024) (l : Fin 2048) :
    k0_pay2 (F := Ideal) x g (ix2 r l) = rms (fun l => x (ix2 r l)) (fun l => g (ix2 0 l)) l := by
  pointwise [k0_pay2, k0_pay1, rms]

/-- One block of columns is the product of the kept rows and that block of the weights. -/
theorem pay3_at (z : FVec Ideal S1024x2048 .bf16) (w : FVec Ideal S2048x512 .bf16) (r : Fin 1024) (k : Fin 512) :
    k0_pay3 (F := Ideal) z w (ix2 r k) = ∑ q : Fin 2048, z (ix2 r q) * w (ix2 q k) := by
  pointwise [k0_pay3]

/-- The input row `r` of the layer: position `r % 2048` of sequence `r / 2048`. -/
def row (x : FVec Ideal S8x2048x2048 .f32) (r : Fin 16384) (q : Fin 2048) : EReal :=
  x (ix3 (⟨r.val / 2048, by omega⟩ : Fin 8) (⟨r.val % 2048, by omega⟩ : Fin 2048) q)

/-- The layer's input as the kernel is given it: its positions as 16384 rows. -/
theorem x_entry (c : Dev nD) (r : Fin 16384) (q : Fin 2048) :
    (show FVec Ideal S16384x2048 .f32 from V m c main_v0) (ix2 r q)
      = row (m ((c.tc : Thread nD τ).loc main_arg0)) r q := by
  unfold row
  simp only [V, V0, hostOps0, List.flatten_cons, List.flatten_nil, List.cons_append, List.nil_append, List.append_nil,
    StableHlo.TRef.unary, StableHlo.TRef.binary, StableHlo.TRef.nullary, StableHlo.TRef.toBuf, StableHlo.TRef.ofBuf, cast_eq]
  after_results_simp
  pointwise

/-- The gain as the kernel is given it. -/
theorem g_entry (c : Dev nD) (q : Fin 2048) :
    (show FVec Ideal S1x2048 .f32 from V m c main_v1) (ix2 0 q)
      = (show FVec Ideal S2048 .f32 from m ((c.tc : Thread nD τ).loc main_arg1)) (ix1 q) := by
  simp only [V, V0, hostOps0, List.flatten_cons, List.flatten_nil, List.cons_append, List.nil_append, List.append_nil,
    StableHlo.TRef.unary, StableHlo.TRef.binary, StableHlo.TRef.nullary, StableHlo.TRef.toBuf, StableHlo.TRef.ofBuf, cast_eq]
  after_results_simp
  pointwise

/-- A block of input rows, read from the array. -/
theorem x_at (c : Dev nD) (t : Fin cfg0.N) (y0 : Fin 1024) (q : Fin 2048) (r : Fin 16384)
    (er : r.val = t.val / 21 * 1024 + (y0 : ℕ)) :
    (show FVec Ideal S1024x2048 .f32 from iblk m c 0 t) (ix2 y0 q) = row (m ((c.tc : Thread nD τ).loc main_arg0)) r q := by
  refine Eq.trans ?_ (x_entry m c r q)
  blk_point [iblk, idx t]

/-- The gain at a grid point, read from the array. -/
theorem g_at (c : Dev nD) (t : Fin cfg0.N) (q : Fin 2048) :
    (show FVec Ideal S1x2048 .f32 from iblk m c 1 t) (ix2 0 q)
      = (show FVec Ideal S2048 .f32 from m ((c.tc : Thread nD τ).loc main_arg1)) (ix1 q) := by
  refine Eq.trans ?_ (g_entry m c q)
  blk_point [iblk, idx t]

/-- A block of weight columns, read from the array. -/
theorem w_at (c : Dev nD) (t : Fin cfg0.N) (q : Fin 2048) (k : Fin 512) (n : Fin 10752)
    (en : n.val = t.val % 21 * 512 + (k : ℕ)) :
    (show FVec Ideal S2048x512 .bf16 from iblk m c 2 t) (ix2 q k)
      = (show FVec Ideal S2048x10752 .bf16 from V m c main_v132) (ix2 q n) := by
  blk_point [iblk, idx t]

/-- The normalised rows of the layer. -/
def rows (x : FVec Ideal S8x2048x2048 .f32) (g : FVec Ideal S2048 .f32) (r : Fin 16384) (q : Fin 2048) : EReal :=
  rms (row x r) (fun q => g (ix1 q)) q

/-- The kernel's first result is the normalised rows. -/
theorem u_final (c : Dev nD) : (dats m 0 c).arrAt 3 cfg0.N
    = fun j : S16384x2048.Idx => rows (m ((c.tc : Thread nD τ).loc main_arg0)) (m ((c.tc : Thread nD τ).loc main_arg1))
        (j 0) (j 1) := by
  refine (dats m 0 c).arrAt_eq_of_covers 3 _ (by decide +kernel) fun t hf y => ?_
  blk_simp
  rw [after0_3]
  have key : ∀ (y : S1024x2048.Idx) (r : Fin 16384) (l : Fin 2048) (er : r.val = t.val / 21 * 1024 + (y 0 : ℕ))
      (el : l.val = (y 1 : ℕ)), uAt m c t y
        = rows (m ((c.tc : Thread nD τ).loc main_arg0)) (m ((c.tc : Thread nD τ).loc main_arg1)) r l := by
    intro y r l er el
    idx_vars y
    have el' : y1 = l := Fin.ext el.symm
    subst el'
    unfold uAt rows
    rw [pay1_at]
    exact congrArg₂ (fun a b => rms a b y1) (funext fun q => x_at m c t y0 q r er) (funext fun q => g_at m c t q)
  refine key y _ _ ?_ ?_
  · blk_simp [idx t]
  · blk_simp [idx t]

/-- The kernel's second result is their product with the prepared weights. -/
theorem p_final (c : Dev nD) : (dats m 0 c).arrAt 4 cfg0.N
    = fun j : S16384x10752.Idx => ∑ q : Fin 2048,
        rows (m ((c.tc : Thread nD τ).loc main_arg0)) (m ((c.tc : Thread nD τ).loc main_arg1)) (j 0) q
          * (show FVec Ideal S2048x10752 .bf16 from V m c main_v132) (ix2 q (j 1)) := by
  refine (dats m 0 c).arrAt_eq_of_covers 4 _ (by decide +kernel) fun t hf y => ?_
  blk_simp
  rw [after0_4]
  have key : ∀ (y : S1024x512.Idx) (r : Fin 16384) (l : Fin 10752) (er : r.val = t.val / 21 * 1024 + (y 0 : ℕ))
      (el : l.val = t.val % 21 * 512 + (y 1 : ℕ)), k0_pay3 (F := Ideal) (sAt m c t) (iblk m c 2 t) y
        = ∑ q : Fin 2048, rows (m ((c.tc : Thread nD τ).loc main_arg0)) (m ((c.tc : Thread nD τ).loc main_arg1)) r q
          * (show FVec Ideal S2048x10752 .bf16 from V m c main_v132) (ix2 q l) := by
    intro y r l er el
    idx_vars y
    rw [pay3_at]
    refine Finset.sum_congr rfl fun q _ => congrArg₂ (· * ·) ?_ (w_at m c t q y1 l el)
    unfold sAt rows
    rw [pay2_at]
    exact congrArg₂ (fun a b => rms a b q) (funext fun q => x_at m c t y0 q r er) (funext fun q => g_at m c t q)
  refine key y _ _ ?_ ?_
  · blk_simp [idx t]
  · blk_simp [idx t]

end Cert.InprojIdeal.Maths

end
-- ==== Proof.InprojWeights.lean ====
module

public import proofs.«01_k».proof.Proof.InprojIdealFrame
public import proofs.«01_k».proof.Proof.Common

@[expose] public section

set_option maxRecDepth 16384

noncomputable section

namespace Cert.InprojIdeal.Maths

open Idealize.ShloMosaic Idealize.ShloMosaic.TcCoe Idealize.SL.Sem
open Idealize.ShloMosaic.Pipeline (Dat)
open Cert.InprojIdeal Cert.InprojIdeal.Gen Cert.Common

variable (m : (ℓ : Loc nD τ sig) → Buf (Elt Ideal) ℓ)

/-- The layer's weights at row `q` and column `n`. -/
def wt (c : Dev nD) (q : Fin 2048) (n : Fin 6936) : EReal :=
  (show FVec Ideal S2048x6936 .f32 from m ((c.tc : Thread nD τ).loc main_arg2)) (ix2 q n)

/-- The host's arrays after its first `k` operations. -/
def front (k : ℕ) (c : Dev nD) : Valuation τ sig (Elt Ideal) := StableHlo.after (hostOps0.take k) (fun b => m (c, b))

/-- What the host prepares is what its operations after the first `k` make of what those left. -/
theorem V_cut (k : ℕ) (c : Dev nD) : V0 m c = StableHlo.after (hostOps0.drop k) (front m k c) := by
  unfold front
  rw [← StableHlo.after_append, List.take_append_drop]
  simp only [V0, List.flatten_cons, List.flatten_nil, List.append_nil]

/-- The width of a block of columns. -/
def width (s : Shape) : ℕ := if h : s.rank = 2 then s.size ((1 : Fin 2).cast h.symm) else 0

/-- Blocks of columns side by side, read at a column of block `k`. -/
theorem block_col {N w : ℕ} (xs : List ((s : Shape) × (s.Idx → EReal)))
    (hxs : Shape.Concatenates (xs.map (·.1)) ⟨2, ![2048, N]⟩ 1) (k : ℕ) (hk : k < xs.length)
    (x : (⟨2, ![2048, w]⟩ : Shape).Idx → EReal) (hx : xs[k] = ⟨⟨2, ![2048, w]⟩, x⟩) (pre : ℕ)
    (hpre : ((xs.map fun y => width y.1).take k).sum = pre) (q : Fin 2048) (d : Fin w) (n : Fin N)
    (hn : pre + d.val = n.val) :
    concatenate (α := EReal) ⟨2, ![2048, N]⟩ 1 xs hxs (ix2 q n) = x (ix2 q d) := by
  refine concatenate_apply_piece 1 xs hxs (ix2 q n) k hk _ x hx rfl pre ?_ (ix2 q d) ?_ hn
  · rw [← hpre, ← List.map_take, List.map_map]
    rfl
  · intro b hb
    fin_cases b
    · rfl
    · exact absurd rfl hb

/-- The first six groups of blocks: eight heads of 64 columns each, every one with 64 columns of zeros after it. -/
def heads (F : Valuation τ sig (Elt Ideal)) : Fin 6 → List ((s : Shape) × (s.Idx → EReal)) :=
  ![[⟨S2048x64, F (Proc.devRef .tc main_v2)⟩, ⟨S2048x64, F (Proc.devRef .tc main_v3)⟩, ⟨S2048x64, F (Proc.devRef .tc main_v4)⟩,
    ⟨S2048x64, F (Proc.devRef .tc main_v5)⟩, ⟨S2048x64, F (Proc.devRef .tc main_v6)⟩, ⟨S2048x64, F (Proc.devRef .tc main_v7)⟩,
    ⟨S2048x64, F (Proc.devRef .tc main_v8)⟩, ⟨S2048x64, F (Proc.devRef .tc main_v9)⟩, ⟨S2048x64, F (Proc.devRef .tc main_v10)⟩,
    ⟨S2048x64, F (Proc.devRef .tc main_v11)⟩, ⟨S2048x64, F (Proc.devRef .tc main_v12)⟩, ⟨S2048x64, F (Proc.devRef .tc main_v13)⟩,
    ⟨S2048x64, F (Proc.devRef .tc main_v14)⟩, ⟨S2048x64, F (Proc.devRef .tc main_v15)⟩, ⟨S2048x64, F (Proc.devRef .tc main_v16)⟩,
    ⟨S2048x64, F (Proc.devRef .tc main_v17)⟩],
    [⟨S2048x64, F (Proc.devRef .tc main_v18)⟩, ⟨S2048x64, F (Proc.devRef .tc main_v19)⟩, ⟨S2048x64, F (Proc.devRef .tc main_v20)⟩,
    ⟨S2048x64, F (Proc.devRef .tc main_v21)⟩, ⟨S2048x64, F (Proc.devRef .tc main_v22)⟩, ⟨S2048x64, F (Proc.devRef .tc main_v23)⟩,
    ⟨S2048x64, F (Proc.devRef .tc main_v24)⟩, ⟨S2048x64, F (Proc.devRef .tc main_v25)⟩, ⟨S2048x64, F (Proc.devRef .tc main_v26)⟩,
    ⟨S2048x64, F (Proc.devRef .tc main_v27)⟩, ⟨S2048x64, F (Proc.devRef .tc main_v28)⟩, ⟨S2048x64, F (Proc.devRef .tc main_v29)⟩,
    ⟨S2048x64, F (Proc.devRef .tc main_v30)⟩, ⟨S2048x64, F (Proc.devRef .tc main_v31)⟩, ⟨S2048x64, F (Proc.devRef .tc main_v32)⟩,
    ⟨S2048x64, F (Proc.devRef .tc main_v33)⟩],
    [⟨S2048x64, F (Proc.devRef .tc main_v34)⟩, ⟨S2048x64, F (Proc.devRef .tc main_v35)⟩, ⟨S2048x64, F (Proc.devRef .tc main_v36)⟩,
    ⟨S2048x64, F (Proc.devRef .tc main_v37)⟩, ⟨S2048x64, F (Proc.devRef .tc main_v38)⟩, ⟨S2048x64, F (Proc.devRef .tc main_v39)⟩,
    ⟨S2048x64, F (Proc.devRef .tc main_v40)⟩, ⟨S2048x64, F (Proc.devRef .tc main_v41)⟩, ⟨S2048x64, F (Proc.devRef .tc main_v42)⟩,
    ⟨S2048x64, F (Proc.devRef .tc main_v43)⟩, ⟨S2048x64, F (Proc.devRef .tc main_v44)⟩, ⟨S2048x64, F (Proc.devRef .tc main_v45)⟩,
    ⟨S2048x64, F (Proc.devRef .tc main_v46)⟩, ⟨S2048x64, F (Proc.devRef .tc main_v47)⟩, ⟨S2048x64, F (Proc.devRef .tc main_v48)⟩,
    ⟨S2048x64, F (Proc.devRef .tc main_v49)⟩],
    [⟨S2048x64, F (Proc.devRef .tc main_v50)⟩, ⟨S2048x64, F (Proc.devRef .tc main_v51)⟩, ⟨S2048x64, F (Proc.devRef .tc main_v52)⟩,
    ⟨S2048x64, F (Proc.devRef .tc main_v53)⟩, ⟨S2048x64, F (Proc.devRef .tc main_v54)⟩, ⟨S2048x64, F (Proc.devRef .tc main_v55)⟩,
    ⟨S2048x64, F (Proc.devRef .tc main_v56)⟩, ⟨S2048x64, F (Proc.devRef .tc main_v57)⟩, ⟨S2048x64, F (Proc.devRef .tc main_v58)⟩,
    ⟨S2048x64, F (Proc.devRef .tc main_v59)⟩, ⟨S2048x64, F (Proc.devRef .tc main_v60)⟩, ⟨S2048x64, F (Proc.devRef .tc main_v61)⟩,
    ⟨S2048x64, F (Proc.devRef .tc main_v62)⟩, ⟨S2048x64, F (Proc.devRef .tc main_v63)⟩, ⟨S2048x64, F (Proc.devRef .tc main_v64)⟩,
    ⟨S2048x64, F (Proc.devRef .tc main_v65)⟩],
    [⟨S2048x64, F (Proc.devRef .tc main_v66)⟩, ⟨S2048x64, F (Proc.devRef .tc main_v67)⟩, ⟨S2048x64, F (Proc.devRef .tc main_v68)⟩,
    ⟨S2048x64, F (Proc.devRef .tc main_v69)⟩, ⟨S2048x64, F (Proc.devRef .tc main_v70)⟩, ⟨S2048x64, F (Proc.devRef .tc main_v71)⟩,
    ⟨S2048x64, F (Proc.devRef .tc main_v72)⟩, ⟨S2048x64, F (Proc.devRef .tc main_v73)⟩, ⟨S2048x64, F (Proc.devRef .tc main_v74)⟩,
    ⟨S2048x64, F (Proc.devRef .tc main_v75)⟩, ⟨S2048x64, F (Proc.devRef .tc main_v76)⟩, ⟨S2048x64, F (Proc.devRef .tc main_v77)⟩,
    ⟨S2048x64, F (Proc.devRef .tc main_v78)⟩, ⟨S2048x64, F (Proc.devRef .tc main_v79)⟩, ⟨S2048x64, F (Proc.devRef .tc main_v80)⟩,
    ⟨S2048x64, F (Proc.devRef .tc main_v81)⟩],
    [⟨S2048x64, F (Proc.devRef .tc main_v82)⟩, ⟨S2048x64, F (Proc.devRef .tc main_v83)⟩, ⟨S2048x64, F (Proc.devRef .tc main_v84)⟩,
    ⟨S2048x64, F (Proc.devRef .tc main_v85)⟩, ⟨S2048x64, F (Proc.devRef .tc main_v86)⟩, ⟨S2048x64, F (Proc.devRef .tc main_v87)⟩,
    ⟨S2048x64, F (Proc.devRef .tc main_v88)⟩, ⟨S2048x64, F (Proc.devRef .tc main_v89)⟩, ⟨S2048x64, F (Proc.devRef .tc main_v90)⟩,
    ⟨S2048x64, F (Proc.devRef .tc main_v91)⟩, ⟨S2048x64, F (Proc.devRef .tc main_v92)⟩, ⟨S2048x64, F (Proc.devRef .tc main_v93)⟩,
    ⟨S2048x64, F (Proc.devRef .tc main_v94)⟩, ⟨S2048x64, F (Proc.devRef .tc main_v95)⟩, ⟨S2048x64, F (Proc.devRef .tc main_v96)⟩,
    ⟨S2048x64, F (Proc.devRef .tc main_v97)⟩]]

/-- The shapes of their blocks. -/
theorem heads_shapes (F : Valuation τ sig (Elt Ideal)) (g : Fin 6) : (heads F g).map (·.1) = List.replicate 16 S2048x64 := by
  fin_cases g <;> rfl

/-- They join to 1024 columns. -/
theorem heads_fit (F : Valuation τ sig (Elt Ideal)) (g : Fin 6) : Shape.Concatenates ((heads F g).map (·.1)) S2048x1024 1 := by
  rw [heads_shapes]
  exact concatenates_S2048x64_S2048x64_S2048x64_S2048x64_S2048x64_S2048x64_S2048x64_S2048x64_S2048x64_S2048x64_S2048x64_S2048x64_S2048x64_S2048x64_S2048x64_S2048x64_S2048x1024_d1

/-- The seventh group: the fourth branch's columns and gate, then seven heads of the second branch. -/
def group6 (F : Valuation τ sig (Elt Ideal)) : List ((s : Shape) × (s.Idx → EReal)) :=
  [⟨S2048x1536, F (Proc.devRef .tc main_v98)⟩, ⟨S2048x512, F (Proc.devRef .tc main_v99)⟩,
    ⟨S2048x64, F (Proc.devRef .tc main_v100)⟩, ⟨S2048x64, F (Proc.devRef .tc main_v101)⟩,
    ⟨S2048x64, F (Proc.devRef .tc main_v102)⟩, ⟨S2048x64, F (Proc.devRef .tc main_v103)⟩,
    ⟨S2048x64, F (Proc.devRef .tc main_v104)⟩, ⟨S2048x64, F (Proc.devRef .tc main_v105)⟩,
    ⟨S2048x64, F (Proc.devRef .tc main_v106)⟩, ⟨S2048x64, F (Proc.devRef .tc main_v107)⟩,
    ⟨S2048x64, F (Proc.devRef .tc main_v108)⟩, ⟨S2048x64, F (Proc.devRef .tc main_v109)⟩,
    ⟨S2048x64, F (Proc.devRef .tc main_v110)⟩, ⟨S2048x64, F (Proc.devRef .tc main_v111)⟩,
    ⟨S2048x64, F (Proc.devRef .tc main_v112)⟩, ⟨S2048x64, F (Proc.devRef .tc main_v113)⟩]

/-- The eighth group: the second branch's last head, then the narrow projections. -/
def group7 (F : Valuation τ sig (Elt Ideal)) : List ((s : Shape) × (s.Idx → EReal)) :=
  [⟨S2048x64, F (Proc.devRef .tc main_v114)⟩, ⟨S2048x64, F (Proc.devRef .tc main_v115)⟩,
    ⟨S2048x512, F (Proc.devRef .tc main_v116)⟩, ⟨S2048x512, F (Proc.devRef .tc main_v117)⟩,
    ⟨S2048x256, F (Proc.devRef .tc main_v118)⟩, ⟨S2048x16, F (Proc.devRef .tc main_v119)⟩,
    ⟨S2048x112, F (Proc.devRef .tc main_v120)⟩, ⟨S2048x8, F (Proc.devRef .tc main_v121)⟩,
    ⟨S2048x120, F (Proc.devRef .tc main_v122)⟩]

/-- The seventh group joined. -/
def join6 (F : Valuation τ sig (Elt Ideal)) : FVec Ideal S2048x2944 .f32 :=
  concatenate (α := EReal) S2048x2944 1 (group6 F)
    concatenates_S2048x1536_S2048x512_S2048x64_S2048x64_S2048x64_S2048x64_S2048x64_S2048x64_S2048x64_S2048x64_S2048x64_S2048x64_S2048x64_S2048x64_S2048x64_S2048x64_S2048x2944_d1

/-- The eighth group joined. -/
def join7 (F : Valuation τ sig (Elt Ideal)) : FVec Ideal S2048x1664 .f32 :=
  concatenate (α := EReal) S2048x1664 1 (group7 F)
    concatenates_S2048x64_S2048x64_S2048x512_S2048x512_S2048x256_S2048x16_S2048x112_S2048x8_S2048x120_S2048x1664_d1

/-- A group of heads joined. -/
def joinHeads (F : Valuation τ sig (Elt Ideal)) (g : Fin 6) : FVec Ideal S2048x1024 .f32 :=
  concatenate (α := EReal) S2048x1024 1 (heads F g) (heads_fit F g)

/-- The eight groups. -/
def groups (F : Valuation τ sig (Elt Ideal)) : List ((s : Shape) × (s.Idx → EReal)) :=
  [⟨S2048x1024, joinHeads F 0⟩, ⟨S2048x1024, joinHeads F 1⟩, ⟨S2048x1024, joinHeads F 2⟩, ⟨S2048x1024, joinHeads F 3⟩,
    ⟨S2048x1024, joinHeads F 4⟩, ⟨S2048x1024, joinHeads F 5⟩, ⟨S2048x2944, join6 F⟩, ⟨S2048x1664, join7 F⟩]

/-- The prepared weights are the eight groups side by side. -/
theorem w_joined (c : Dev nD) : (show FVec Ideal S2048x10752 .bf16 from V m c main_v132)
    = truncf .bf16 (show FVec Ideal S2048x10752 .f32 from concatenate (α := EReal) S2048x10752 1 (groups (front m 181 c))
      concatenates_S2048x1024_S2048x1024_S2048x1024_S2048x1024_S2048x1024_S2048x1024_S2048x2944_S2048x1664_S2048x10752_d1)
      bitsLt_bf16_f32 := by
  show V0 m c (Proc.devRef .tc main_v132) = _
  rw [V_cut m 181 c]
  generalize front m 181 c = F
  simp only [hostOps0, List.drop_succ_cons, List.drop_zero, StableHlo.TRef.unary, StableHlo.TRef.binary,
    StableHlo.TRef.nullary, StableHlo.TRef.toBuf, StableHlo.TRef.ofBuf, cast_eq]
  after_results
  rfl

/-- The prepared weights at the columns of one group. -/
theorem w_group (c : Dev nD) (q : Fin 2048) (k : ℕ) (hk : k < 8) {w : ℕ} (x : (⟨2, ![2048, w]⟩ : Shape).Idx → EReal)
    (hx : (groups (front m 181 c))[k]'hk = ⟨⟨2, ![2048, w]⟩, x⟩) (pre : ℕ)
    (hpre : (([1024, 1024, 1024, 1024, 1024, 1024, 2944, 1664] : List ℕ).take k).sum = pre) (d : Fin w) (n : Fin 10752)
    (hn : pre + d.val = n.val) :
    (show FVec Ideal S2048x10752 .bf16 from V m c main_v132) (ix2 q n) = x (ix2 q d) := by
  rw [w_joined]
  exact block_col (groups (front m 181 c))
    concatenates_S2048x1024_S2048x1024_S2048x1024_S2048x1024_S2048x1024_S2048x1024_S2048x2944_S2048x1664_S2048x10752_d1 k hk x hx pre hpre q d n hn

set_option maxHeartbeats 4000000 in
/-- The heads' columns are columns of the layer's weights: the first branch's heads in groups 0 to 2, the third's in
    groups 3 to 5. -/
theorem head_piece (c : Dev nD) (g : Fin 6) (h : Fin 8) : ∃ x : S2048x64.Idx → EReal,
    (heads (front m 181 c) g)[2 * h.val]? = some ⟨S2048x64, x⟩ ∧ ∀ (q : Fin 2048) (d : Fin 64),
      x (ix2 q d) = wt m c q ⟨g.val / 3 * 3344 + (g.val % 3 * 8 + h.val) * 64 + d.val, by omega⟩ := by
  unfold wt
  fin_cases g <;> fin_cases h <;>
  · refine ⟨_, rfl, fun q d => ?_⟩
    simp only [front, hostOps0, List.take_succ_cons, List.take_zero]
    after_results_simp
    pointwise

set_option maxHeartbeats 4000000 in
/-- The second branch's first seven heads. -/
theorem head_b (c : Dev nD) (h : Fin 7) : ∃ x : S2048x64.Idx → EReal,
    (group6 (front m 181 c))[2 + 2 * h.val]? = some ⟨S2048x64, x⟩ ∧ ∀ (q : Fin 2048) (d : Fin 64),
      x (ix2 q d) = wt m c q ⟨1792 + h.val * 64 + d.val, by omega⟩ := by
  unfold wt
  fin_cases h <;>
  · refine ⟨_, rfl, fun q d => ?_⟩
    simp only [front, hostOps0, List.take_succ_cons, List.take_zero]
    after_results_simp
    pointwise

/-- Block `n` holds the columns of the layer's weights from `start` on. -/
abbrev Holds (w : ℕ) (x : (⟨2, ![2048, w]⟩ : Shape).Idx → EReal) (c : Dev nD) (start : ℕ) (hs : start + w ≤ 6936) : Prop :=
  ∀ (q : Fin 2048) (k : Fin w), x (ix2 q k) = wt m c q ⟨start + k.val, by omega⟩

set_option maxHeartbeats 4000000 in
/-- The other blocks. -/
theorem others (c : Dev nD) :
    Holds m 1536 (front m 181 c (Proc.devRef .tc main_v98)) c 4880 (by omega)
    ∧ Holds m 512 (front m 181 c (Proc.devRef .tc main_v99)) c 6424 (by omega)
    ∧ Holds m 64 (front m 181 c (Proc.devRef .tc main_v114)) c 2240 (by omega)
    ∧ Holds m 512 (front m 181 c (Proc.devRef .tc main_v116)) c 2304 (by omega)
    ∧ Holds m 512 (front m 181 c (Proc.devRef .tc main_v117)) c 2832 (by omega)
    ∧ Holds m 256 (front m 181 c (Proc.devRef .tc main_v118)) c 1536 (by omega)
    ∧ Holds m 16 (front m 181 c (Proc.devRef .tc main_v119)) c 2816 (by omega)
    ∧ Holds m 8 (front m 181 c (Proc.devRef .tc main_v121)) c 6416 (by omega) := by
  unfold Holds wt
  refine ⟨?_, ?_, ?_, ?_, ?_, ?_, ?_, ?_⟩ <;>
  · intro q k
    simp only [front, hostOps0, List.take_succ_cons, List.take_zero]
    after_results_simp
    pointwise

/-- The prepared weights at the columns of a head in the first six groups. -/
theorem w_head (c : Dev nD) (q : Fin 2048) (g : Fin 6) (h : Fin 8) (d : Fin 64) (n : Fin 10752)
    (hn : g.val * 1024 + (h.val * 128 + d.val) = n.val) :
    (show FVec Ideal S2048x10752 .bf16 from V m c main_v132) (ix2 q n)
      = wt m c q ⟨g.val / 3 * 3344 + (g.val % 3 * 8 + h.val) * 64 + d.val, by omega⟩ := by
  obtain ⟨x, hx, e⟩ := head_piece m c g h
  obtain ⟨hk, hx⟩ := List.getElem?_eq_some_iff.mp hx
  rw [← e]
  refine (w_group m c q g.val (by omega) (joinHeads (front m 181 c) g) ?_ (g.val * 1024) ?_ ⟨h.val * 128 + d.val, by omega⟩ n hn).trans
    (block_col (heads (front m 181 c) g) (heads_fit _ g) (2 * h.val) hk x hx (h.val * 128) ?_ q d _ rfl)
  · fin_cases g <;> rfl
  · exact (by decide : ∀ g : Fin 6, (([1024, 1024, 1024, 1024, 1024, 1024, 2944, 1664] : List ℕ).take g.val).sum = g.val * 1024) g
  · have : (heads (front m 181 c) g).map (fun y => width y.1) = List.replicate 16 64 := by
      fin_cases g <;> rfl
    rw [this]
    exact (by decide : ∀ h : Fin 8, ((List.replicate 16 64).take (2 * h.val)).sum = h.val * 128) h

/-- The prepared weights at a column of block `k` of the seventh group. -/
theorem w_six (c : Dev nD) (q : Fin 2048) (k : ℕ) (hk : k < 16) {w : ℕ} (x : (⟨2, ![2048, w]⟩ : Shape).Idx → EReal)
    (hx : (group6 (front m 181 c))[k]'hk = ⟨⟨2, ![2048, w]⟩, x⟩) (pre : ℕ)
    (hpre : ((1536 :: 512 :: List.replicate 14 64).take k).sum = pre) (d : Fin w) (n : Fin 10752) (hw : pre + d.val < 2944)
    (hn : 6144 + (pre + d.val) = n.val) :
    (show FVec Ideal S2048x10752 .bf16 from V m c main_v132) (ix2 q n) = x (ix2 q d) :=
  (w_group m c q 6 (by decide) (join6 (front m 181 c)) rfl 6144 rfl ⟨pre + d.val, hw⟩ n hn).trans
    (block_col (group6 (front m 181 c)) _ k hk x hx pre hpre q d _ rfl)

/-- The prepared weights at a column of block `k` of the eighth group. -/
theorem w_seven (c : Dev nD) (q : Fin 2048) (k : ℕ) (hk : k < 9) {w : ℕ} (x : (⟨2, ![2048, w]⟩ : Shape).Idx → EReal)
    (hx : (group7 (front m 181 c))[k]'hk = ⟨⟨2, ![2048, w]⟩, x⟩) (pre : ℕ)
    (hpre : (([64, 64, 512, 512, 256, 16, 112, 8, 120] : List ℕ).take k).sum = pre) (d : Fin w) (n : Fin 10752)
    (hw : pre + d.val < 1664) (hn : 9088 + (pre + d.val) = n.val) :
    (show FVec Ideal S2048x10752 .bf16 from V m c main_v132) (ix2 q n) = x (ix2 q d) :=
  (w_group m c q 7 (by decide) (join7 (front m 181 c)) rfl 9088 rfl ⟨pre + d.val, hw⟩ n hn).trans
    (block_col (group7 (front m 181 c)) _ k hk x hx pre hpre q d _ rfl)

/-- The prepared weights at the first branch's heads. -/
theorem w_col0 (c : Dev nD) (q : Fin 2048) (h : Fin 24) (d : Fin 64) :
    (show FVec Ideal S2048x10752 .bf16 from V m c main_v132) (ix2 q (⟨0 + (h.val * 128 + d.val), by omega⟩ : Fin 10752))
      = wt m c q ⟨0 + (h.val * 64 + d.val), by omega⟩ := by
  refine (w_head m c q ⟨h.val / 8, by omega⟩ ⟨h.val % 8, by omega⟩ d _ ?_).trans ?_
  · show (h.val / 8) * 1024 + (h.val % 8 * 128 + d.val) = 0 + (h.val * 128 + d.val)
    omega
  · refine congrArg (wt m c q) (Fin.ext ?_)
    show (h.val / 8) / 3 * 3344 + ((h.val / 8) % 3 * 8 + h.val % 8) * 64 + d.val = 0 + (h.val * 64 + d.val)
    omega

/-- The prepared weights at the third branch's heads. -/
theorem w_col1 (c : Dev nD) (q : Fin 2048) (h : Fin 24) (d : Fin 64) :
    (show FVec Ideal S2048x10752 .bf16 from V m c main_v132) (ix2 q (⟨3072 + (h.val * 128 + d.val), by omega⟩ : Fin 10752))
      = wt m c q ⟨3344 + (h.val * 64 + d.val), by omega⟩ := by
  refine (w_head m c q ⟨3 + h.val / 8, by omega⟩ ⟨h.val % 8, by omega⟩ d _ ?_).trans ?_
  · show (3 + h.val / 8) * 1024 + (h.val % 8 * 128 + d.val) = 3072 + (h.val * 128 + d.val)
    omega
  · refine congrArg (wt m c q) (Fin.ext ?_)
    show (3 + h.val / 8) / 3 * 3344 + ((3 + h.val / 8) % 3 * 8 + h.val % 8) * 64 + d.val = 3344 + (h.val * 64 + d.val)
    omega

/-- The prepared weights at the fourth branch's columns. -/
theorem w_col2 (c : Dev nD) (q : Fin 2048) (k : Fin 1536) :
    (show FVec Ideal S2048x10752 .bf16 from V m c main_v132) (ix2 q (⟨6144 + k.val, by omega⟩ : Fin 10752))
      = wt m c q ⟨4880 + k.val, by omega⟩ :=
  (w_six m c q 0 (by decide) (w := 1536) _ rfl 0 rfl k _ (by omega) (by show 6144 + (0 + k.val) = 6144 + k.val; omega)).trans ((others m c).1 q k)

/-- The prepared weights at the fourth branch's gate. -/
theorem w_col3 (c : Dev nD) (q : Fin 2048) (k : Fin 512) :
    (show FVec Ideal S2048x10752 .bf16 from V m c main_v132) (ix2 q (⟨7680 + k.val, by omega⟩ : Fin 10752))
      = wt m c q ⟨6424 + k.val, by omega⟩ :=
  (w_six m c q 1 (by decide) (w := 512) _ rfl 1536 rfl k _ (by omega) (by show 6144 + (1536 + k.val) = 7680 + k.val; omega)).trans ((others m c).2.1 q k)

/-- The prepared weights at the second branch's heads. -/
theorem w_col4 (c : Dev nD) (q : Fin 2048) (h : Fin 8) (d : Fin 64) :
    (show FVec Ideal S2048x10752 .bf16 from V m c main_v132) (ix2 q (⟨8192 + (h.val * 128 + d.val), by omega⟩ : Fin 10752))
      = wt m c q ⟨1792 + (h.val * 64 + d.val), by omega⟩ := by
  rcases Nat.lt_or_ge h.val 7 with hh | hh
  · obtain ⟨x, hx, e⟩ := head_b m c ⟨h.val, hh⟩
    obtain ⟨hk, hx⟩ := List.getElem?_eq_some_iff.mp hx
    refine (w_six m c q (2 + 2 * h.val) hk x hx (2048 + h.val * 128) ?_ d _ (by omega) ?_).trans
      ((e q d).trans (congrArg (wt m c q) (Fin.ext ?_)))
    · exact (by decide : ∀ h : Fin 7, ((1536 :: 512 :: List.replicate 14 64).take (2 + 2 * h.val)).sum = 2048 + h.val * 128) ⟨h.val, hh⟩
    · show 6144 + (2048 + h.val * 128 + d.val) = 8192 + (h.val * 128 + d.val)
      omega
    · show 1792 + h.val * 64 + d.val = 1792 + (h.val * 64 + d.val)
      omega
  · refine (w_seven m c q 0 (by decide) (w := 64) _ rfl 0 rfl d _ (by omega) ?_).trans (((others m c).2.2.1 q d).trans ?_)
    · show 9088 + (0 + d.val) = 8192 + (h.val * 128 + d.val)
      omega
    · refine congrArg (wt m c q) (Fin.ext ?_)
      show 2240 + d.val = 1792 + (h.val * 64 + d.val)
      omega

/-- The prepared weights at the second branch's values. -/
theorem w_col5 (c : Dev nD) (q : Fin 2048) (k : Fin 512) :
    (show FVec Ideal S2048x10752 .bf16 from V m c main_v132) (ix2 q (⟨9216 + k.val, by omega⟩ : Fin 10752))
      = wt m c q ⟨2304 + k.val, by omega⟩ :=
  (w_seven m c q 2 (by decide) (w := 512) _ rfl 128 rfl k _ (by omega) (by show 9088 + (128 + k.val) = 9216 + k.val; omega)).trans ((others m c).2.2.2.1 q k)

/-- The prepared weights at the second branch's gate. -/
theorem w_col6 (c : Dev nD) (q : Fin 2048) (k : Fin 512) :
    (show FVec Ideal S2048x10752 .bf16 from V m c main_v132) (ix2 q (⟨9728 + k.val, by omega⟩ : Fin 10752))
      = wt m c q ⟨2832 + k.val, by omega⟩ :=
  (w_seven m c q 3 (by decide) (w := 512) _ rfl 640 rfl k _ (by omega) (by show 9088 + (640 + k.val) = 9728 + k.val; omega)).trans ((others m c).2.2.2.2.1 q k)

/-- The prepared weights at the first branch's narrow columns. -/
theorem w_col7 (c : Dev nD) (q : Fin 2048) (k : Fin 256) :
    (show FVec Ideal S2048x10752 .bf16 from V m c main_v132) (ix2 q (⟨10240 + k.val, by omega⟩ : Fin 10752))
      = wt m c q ⟨1536 + k.val, by omega⟩ :=
  (w_seven m c q 4 (by decide) (w := 256) _ rfl 1152 rfl k _ (by omega) (by show 9088 + (1152 + k.val) = 10240 + k.val; omega)).trans ((others m c).2.2.2.2.2.1 q k)

/-- The prepared weights at the second branch's 16 columns. -/
theorem w_col8 (c : Dev nD) (q : Fin 2048) (k : Fin 16) :
    (show FVec Ideal S2048x10752 .bf16 from V m c main_v132) (ix2 q (⟨10496 + k.val, by omega⟩ : Fin 10752))
      = wt m c q ⟨2816 + k.val, by omega⟩ :=
  (w_seven m c q 5 (by decide) (w := 16) _ rfl 1408 rfl k _ (by omega) (by show 9088 + (1408 + k.val) = 10496 + k.val; omega)).trans ((others m c).2.2.2.2.2.2.1 q k)

/-- The prepared weights at the third branch's last 8 columns. -/
theorem w_col9 (c : Dev nD) (q : Fin 2048) (k : Fin 8) :
    (show FVec Ideal S2048x10752 .bf16 from V m c main_v132) (ix2 q (⟨10624 + k.val, by omega⟩ : Fin 10752))
      = wt m c q ⟨6416 + k.val, by omega⟩ :=
  (w_seven m c q 7 (by decide) (w := 8) _ rfl 1536 rfl k _ (by omega) (by show 9088 + (1536 + k.val) = 10624 + k.val; omega)).trans ((others m c).2.2.2.2.2.2.2 q k)

end Cert.InprojIdeal.Maths

end
-- ==== Proof.InprojOutputs.lean ====
module

public import proofs.«01_k».proof.Proof.InprojWeights

@[expose] public section

set_option maxRecDepth 16384

noncomputable section

namespace Cert.InprojIdeal.Maths

open Idealize.ShloMosaic Idealize.ShloMosaic.TcCoe Idealize.SL.Sem
open Idealize.ShloMosaic.Pipeline (Dat)
open Cert.InprojIdeal Cert.InprojIdeal.Gen Cert.Common

/-- Where the kernel keeps column `n` of the layer's weights: heads of 64 lanes stand in slots of 128 lanes, and the column groups
    stand in another order. -/
def slot (n : ℕ) : ℕ :=
  if n < 1536 then n / 64 * 128 + n % 64
  else if n < 1792 then 10240 + (n - 1536)
  else if n < 2304 then 8192 + ((n - 1792) / 64 * 128 + (n - 1792) % 64)
  else if n < 2816 then 9216 + (n - 2304)
  else if n < 2832 then 10496 + (n - 2816)
  else if n < 3344 then 9728 + (n - 2832)
  else if n < 4880 then 3072 + ((n - 3344) / 64 * 128 + (n - 3344) % 64)
  else if n < 6416 then 6144 + (n - 4880)
  else if n < 6424 then 10624 + (n - 6416)
  else 7680 + (n - 6424)

/-- Every such place is a column of the prepared weights. -/
theorem slot_lt {n : ℕ} (h : n < 6936) : slot n < 10752 := by
  unfold slot
  split_ifs <;> omega

/-- The kernel's product array at row `r`, at the place of column `n` of the weights. -/
def col (F : Valuation τ sig (Elt Ideal)) (r n : ℕ) (hr : r < 16384) (hn : n < 6936) : EReal :=
  (show FVec Ideal S16384x10752 .f32 from F (Proc.devRef .tc main_v133_1)) (ix2 ⟨r, hr⟩ ⟨slot n, slot_lt hn⟩)

/-- A reading of the product array at the place of a column. -/
theorem col_eq (F : Valuation τ sig (Elt Ideal)) (r n : ℕ) (hr : r < 16384) (hn : n < 6936) (z : Fin 10752)
    (e : z.val = slot n) :
    (show FVec Ideal S16384x10752 .f32 from F (Proc.devRef .tc main_v133_1)) (ix2 ⟨r, hr⟩ z) = col F r n hr hn :=
  congrArg (fun z : Fin 10752 => (show FVec Ideal S16384x10752 .f32 from F (Proc.devRef .tc main_v133_1)) (ix2 ⟨r, hr⟩ z))
    (Fin.ext e)

variable (F : Valuation τ sig (Elt Ideal))

/-- The place of a column depends only on its number. -/
theorem congr_col (r : ℕ) {n n' : ℕ} {hr : r < 16384} {hn : n < 6936} {hn' : n' < 6936} (e : n = n') :
    col F r n hr hn = col F r n' hr hn' := by
  subst e; rfl

/-- The host operations after the call, cut in two. -/
theorem after_cut (k : ℕ) : StableHlo.after hostOps1 F = StableHlo.after (hostOps1.drop k) (StableHlo.after (hostOps1.take k) F) := by
  rw [← StableHlo.after_append, List.take_append_drop]

/-- A group of columns cut out of the product array. -/
theorem cut30 (b : Fin 8) (s : Fin 2048) (k : Fin 1536) :
    (show FVec Ideal S8x2048x1536 .f32 from StableHlo.after (hostOps1.take 6) F (Proc.devRef .tc main_v138)) (ix3 b s k)
      = col F (b.val * 2048 + s.val) (0 + k.val) (by omega) (by omega) := by
  simp only [hostOps1, List.take_succ_cons, List.take_zero]
  after_results_simp
  pointwise
  exact col_eq F _ _ _ _ _ (by dsimp only; unfold slot; split_ifs <;> omega)

/-- A group of columns cut out of the product array. -/
theorem cut31 (b : Fin 8) (s : Fin 2048) (k : Fin 256) :
    (show FVec Ideal S8x2048x256 .f32 from StableHlo.after (hostOps1.take 6) F (Proc.devRef .tc main_v139)) (ix3 b s k)
      = col F (b.val * 2048 + s.val) (1536 + k.val) (by omega) (by omega) := by
  simp only [hostOps1, List.take_succ_cons, List.take_zero]
  after_results_simp
  pointwise
  exact col_eq F _ _ _ _ _ (by dsimp only; unfold slot; split_ifs <;> omega)

/-- A group of columns cut out of the product array. -/
theorem cut36 (b : Fin 8) (s : Fin 2048) (k : Fin 512) :
    (show FVec Ideal S8x2048x512 .f32 from StableHlo.after (hostOps1.take 14) F (Proc.devRef .tc main_v144)) (ix3 b s k)
      = col F (b.val * 2048 + s.val) (1792 + k.val) (by omega) (by omega) := by
  simp only [hostOps1, List.take_succ_cons, List.take_zero]
  after_results_simp
  pointwise
  exact col_eq F _ _ _ _ _ (by dsimp only; unfold slot; split_ifs <;> omega)

/-- A group of columns cut out of the product array. -/
theorem cut37 (b : Fin 8) (s : Fin 2048) (k : Fin 512) :
    (show FVec Ideal S8x2048x512 .f32 from StableHlo.after (hostOps1.take 14) F (Proc.devRef .tc main_v145)) (ix3 b s k)
      = col F (b.val * 2048 + s.val) (2304 + k.val) (by omega) (by omega) := by
  simp only [hostOps1, List.take_succ_cons, List.take_zero]
  after_results_simp
  pointwise
  exact col_eq F _ _ _ _ _ (by dsimp only; unfold slot; split_ifs <;> omega)

/-- A group of columns cut out of the product array. -/
theorem cut38 (b : Fin 8) (s : Fin 2048) (k : Fin 16) :
    (show FVec Ideal S8x2048x16 .f32 from StableHlo.after (hostOps1.take 14) F (Proc.devRef .tc main_v146)) (ix3 b s k)
      = col F (b.val * 2048 + s.val) (2816 + k.val) (by omega) (by omega) := by
  simp only [hostOps1, List.take_succ_cons, List.take_zero]
  after_results_simp
  pointwise
  exact col_eq F _ _ _ _ _ (by dsimp only; unfold slot; split_ifs <;> omega)

/-- A group of columns cut out of the product array. -/
theorem cut39 (b : Fin 8) (s : Fin 2048) (k : Fin 512) :
    (show FVec Ideal S8x2048x512 .f32 from StableHlo.after (hostOps1.take 14) F (Proc.devRef .tc main_v147)) (ix3 b s k)
      = col F (b.val * 2048 + s.val) (2832 + k.val) (by omega) (by omega) := by
  simp only [hostOps1, List.take_succ_cons, List.take_zero]
  after_results_simp
  pointwise
  exact col_eq F _ _ _ _ _ (by dsimp only; unfold slot; split_ifs <;> omega)

/-- A group of columns cut out of the product array. -/
theorem cut41 (b : Fin 8) (s : Fin 2048) (k : Fin 1536) :
    (show FVec Ideal S8x2048x1536 .f32 from StableHlo.after (hostOps1.take 18) F (Proc.devRef .tc main_v149)) (ix3 b s k)
      = col F (b.val * 2048 + s.val) (4880 + k.val) (by omega) (by omega) := by
  simp only [hostOps1, List.take_succ_cons, List.take_zero]
  after_results_simp
  pointwise
  exact col_eq F _ _ _ _ _ (by dsimp only; unfold slot; split_ifs <;> omega)

/-- A group of columns cut out of the product array. -/
theorem cut42 (b : Fin 8) (s : Fin 2048) (k : Fin 8) :
    (show FVec Ideal S8x2048x8 .f32 from StableHlo.after (hostOps1.take 18) F (Proc.devRef .tc main_v150)) (ix3 b s k)
      = col F (b.val * 2048 + s.val) (6416 + k.val) (by omega) (by omega) := by
  simp only [hostOps1, List.take_succ_cons, List.take_zero]
  after_results_simp
  pointwise
  exact col_eq F _ _ _ _ _ (by dsimp only; unfold slot; split_ifs <;> omega)

/-- A group of columns cut out of the product array. -/
theorem cut43 (b : Fin 8) (s : Fin 2048) (k : Fin 512) :
    (show FVec Ideal S8x2048x512 .f32 from StableHlo.after (hostOps1.take 18) F (Proc.devRef .tc main_v151)) (ix3 b s k)
      = col F (b.val * 2048 + s.val) (6424 + k.val) (by omega) (by omega) := by
  simp only [hostOps1, List.take_succ_cons, List.take_zero]
  after_results_simp
  pointwise
  exact col_eq F _ _ _ _ _ (by dsimp only; unfold slot; split_ifs <;> omega)

/-- The first result is the kernel's normalised rows, by sequence and position. -/
theorem out_u (b : Fin 8) (s : Fin 2048) (q : Fin 2048) :
    (show FVec Ideal S8x2048x2048 .bf16 from StableHlo.after hostOps1 F (Proc.devRef .tc main_v153)) (ix3 b s q)
      = (show FVec Ideal S16384x2048 .bf16 from F (Proc.devRef .tc main_v133_0)) (ix2 ⟨b.val * 2048 + s.val, by omega⟩ q) := by
  simp only [hostOps1]
  after_results_simp
  pointwise

/-- The first branch's columns. -/
theorem out_a (b : Fin 8) (s : Fin 2048) (k : Fin 1792) :
    (show FVec Ideal S8x2048x1792 .f32 from StableHlo.after hostOps1 F (Proc.devRef .tc main_v140)) (ix3 b s k)
      = col F (b.val * 2048 + s.val) (0 + k.val) (by omega) (by omega) := by
  rw [after_cut F 6]
  have h30 := cut30 F b s
  have h31 := cut31 F b s
  generalize StableHlo.after (hostOps1.take 6) F = G at h30 h31 ⊢
  simp only [hostOps1, List.drop_succ_cons, List.drop_zero]
  after_results_simp
  pointwise
  split
  · exact (h30 _).trans (congr_col F _ (by dsimp only; omega))
  · exact (h31 _).trans (congr_col F _ (by dsimp only; omega))

/-- The second branch's columns. -/
theorem out_b (b : Fin 8) (s : Fin 2048) (k : Fin 1552) :
    (show FVec Ideal S8x2048x1552 .f32 from StableHlo.after hostOps1 F (Proc.devRef .tc main_v148)) (ix3 b s k)
      = col F (b.val * 2048 + s.val) (1792 + k.val) (by omega) (by omega) := by
  rw [after_cut F 14]
  have h36 := cut36 F b s
  have h37 := cut37 F b s
  have h38 := cut38 F b s
  have h39 := cut39 F b s
  generalize StableHlo.after (hostOps1.take 14) F = G at h36 h37 h38 h39 ⊢
  simp only [hostOps1, List.drop_succ_cons, List.drop_zero]
  after_results_simp
  pointwise
  split
  · exact (h36 _).trans (congr_col F _ rfl)
  · split
    · exact (h37 _).trans (congr_col F _ (by dsimp only; omega))
    · split
      · exact (h38 _).trans (congr_col F _ (by dsimp only; omega))
      · exact (h39 _).trans (congr_col F _ (by dsimp only; omega))

/-- The third branch's columns. -/
theorem out_c (b : Fin 8) (s : Fin 2048) (k : Fin 1536) :
    (show FVec Ideal S8x2048x1536 .f32 from StableHlo.after hostOps1 F (Proc.devRef .tc main_v157)) (ix3 b s k)
      = col F (b.val * 2048 + s.val) (3344 + k.val) (by omega) (by omega) := by
  simp only [hostOps1]
  after_results_simp
  pointwise
  exact col_eq F _ _ _ _ _ (by dsimp only; unfold slot; split_ifs <;> omega)

/-- The fourth branch's columns. -/
theorem out_d (b : Fin 8) (s : Fin 2048) (k : Fin 2056) :
    (show FVec Ideal S8x2048x2056 .f32 from StableHlo.after hostOps1 F (Proc.devRef .tc main_v152)) (ix3 b s k)
      = col F (b.val * 2048 + s.val) (4880 + k.val) (by omega) (by omega) := by
  rw [after_cut F 18]
  have h41 := cut41 F b s
  have h42 := cut42 F b s
  have h43 := cut43 F b s
  generalize StableHlo.after (hostOps1.take 18) F = G at h41 h42 h43 ⊢
  simp only [hostOps1, List.drop_succ_cons, List.drop_zero]
  after_results_simp
  pointwise
  split
  · exact (h41 _).trans (congr_col F _ rfl)
  · split
    · exact (h42 _).trans (congr_col F _ (by dsimp only; omega))
    · exact (h43 _).trans (congr_col F _ (by dsimp only; omega))

/-- The first branch's columns at the last position. -/
theorem out_shift (b : Fin 8) (s : Fin 1) (k : Fin 1792) :
    (show FVec Ideal S8x1x1792 .f32 from StableHlo.after hostOps1 F (Proc.devRef .tc main_v158)) (ix3 b s k)
      = col F (b.val * 2048 + 2047) (0 + k.val) (by omega) (by omega) := by
  rw [after_cut F 6]
  have h30 := cut30 F b 2047
  have h31 := cut31 F b 2047
  generalize StableHlo.after (hostOps1.take 6) F = G at h30 h31 ⊢
  simp only [hostOps1, List.drop_succ_cons, List.drop_zero]
  after_results_simp
  pointwise
  split
  · exact (h30 _).trans (congr_col F _ (by dsimp only; omega))
  · exact (h31 _).trans (congr_col F _ (by dsimp only; omega))

/-- The keys of the last 512 positions. -/
theorem out_k (b : Fin 8) (s : Fin 512) (h : Fin 8) (d : Fin 64) :
    (show FVec Ideal S8x512x8x64 .f32 from StableHlo.after hostOps1 F (Proc.devRef .tc main_v162)) (ix4 b s h d)
      = col F (b.val * 2048 + (1536 + s.val)) (3856 + (h.val * 64 + d.val)) (by omega) (by omega) := by
  simp only [hostOps1]
  after_results_simp
  pointwise
  exact col_eq F _ _ _ _ _ (by dsimp only; unfold slot; split_ifs <;> omega)

/-- The values of the last 512 positions. -/
theorem out_v (b : Fin 8) (s : Fin 512) (h : Fin 8) (d : Fin 64) :
    (show FVec Ideal S8x512x8x64 .f32 from StableHlo.after hostOps1 F (Proc.devRef .tc main_v166)) (ix4 b s h d)
      = col F (b.val * 2048 + (1536 + s.val)) (4368 + (h.val * 64 + d.val)) (by omega) (by omega) := by
  simp only [hostOps1]
  after_results_simp
  pointwise
  exact col_eq F _ _ _ _ _ (by dsimp only; unfold slot; split_ifs <;> omega)

/-- The fourth branch's first columns at the last three positions. -/
theorem out_conv (b : Fin 8) (s : Fin 3) (k : Fin 1536) :
    (show FVec Ideal S8x3x1536 .f32 from StableHlo.after hostOps1 F (Proc.devRef .tc main_v168)) (ix3 b s k)
      = col F (b.val * 2048 + (2045 + s.val)) (4880 + k.val) (by omega) (by omega) := by
  simp only [hostOps1]
  after_results_simp
  pointwise
  exact col_eq F _ _ _ _ _ (by dsimp only; unfold slot; split_ifs <;> omega)

end Cert.InprojIdeal.Maths

end
-- ==== Proof.InprojResults.lean ====
module

public import proofs.«01_k».proof.Proof.InprojValue
public import proofs.«01_k».proof.Proof.InprojOutputs

@[expose] public section

set_option maxRecDepth 16384

noncomputable section

namespace Cert.InprojIdeal.Maths

open Idealize.ShloMosaic Idealize.ShloMosaic.TcCoe Idealize.SL.Sem
open Idealize.ShloMosaic.Pipeline (Dat)
open Cert.InprojIdeal Cert.InprojIdeal.Gen Cert.Common

/-- The layer's normalised input at sequence `b`, position `s`. -/
def nrm (x : FVec Ideal S8x2048x2048 .f32) (g : FVec Ideal S2048 .f32) (b : Fin 8) (s q : Fin 2048) : EReal :=
  rms (fun q => x (ix3 b s q)) (fun q => g (ix1 q)) q

/-- The layer's input projection at sequence `b`, position `s`, column `n`. -/
def proj (x : FVec Ideal S8x2048x2048 .f32) (g : FVec Ideal S2048 .f32) (w : FVec Ideal S2048x6936 .f32) (b : Fin 8)
    (s : Fin 2048) (n : Fin 6936) : EReal :=
  ∑ q : Fin 2048, nrm x g b s q * w (ix2 q n)

/-- Row `b * 2048 + s` of the kernel's rows is position `s` of sequence `b`. -/
theorem rows_eq (x : FVec Ideal S8x2048x2048 .f32) (g : FVec Ideal S2048 .f32) (b : Fin 8) (s q : Fin 2048) (r : Fin 16384)
    (er : r.val = b.val * 2048 + s.val) : rows x g r q = nrm x g b s q := by
  have eb : (⟨r.val / 2048, by omega⟩ : Fin 8) = b := Fin.ext (by dsimp only; omega)
  have es : (⟨r.val % 2048, by omega⟩ : Fin 2048) = s := Fin.ext (by dsimp only; omega)
  unfold rows row nrm
  rw [eb, es]

variable (m : (ℓ : Loc nD τ sig) → Buf (Elt Ideal) ℓ)

/-- The prepared weights at the place of column `n` are column `n` of the layer's weights. -/
theorem w_slot (c : Dev nD) (q : Fin 2048) (n : Fin 6936) (z : Fin 10752) (ez : z.val = slot n.val) :
    (show FVec Ideal S2048x10752 .bf16 from V m c main_v132) (ix2 q z) = wt m c q n := by
  have move : ∀ (z' : Fin 10752) (n' : Fin 6936), z.val = z'.val → n'.val = n.val →
      (show FVec Ideal S2048x10752 .bf16 from V m c main_v132) (ix2 q z') = wt m c q n' →
      (show FVec Ideal S2048x10752 .bf16 from V m c main_v132) (ix2 q z) = wt m c q n := by
    intro z' n' e1 e2 h
    obtain rfl := Fin.ext e1
    obtain rfl := Fin.ext e2
    exact h
  have hn := n.isLt
  unfold slot at ez
  split_ifs at ez
  · exact move _ _ (by dsimp only; omega) (by dsimp only; omega)
      (w_col0 m c q ⟨(n.val - 0) / 64, by omega⟩ ⟨(n.val - 0) % 64, by omega⟩)
  · exact move _ _ (by dsimp only; omega) (by dsimp only; omega) (w_col7 m c q ⟨n.val - 1536, by omega⟩)
  · exact move _ _ (by dsimp only; omega) (by dsimp only; omega)
      (w_col4 m c q ⟨(n.val - 1792) / 64, by omega⟩ ⟨(n.val - 1792) % 64, by omega⟩)
  · exact move _ _ (by dsimp only; omega) (by dsimp only; omega) (w_col5 m c q ⟨n.val - 2304, by omega⟩)
  · exact move _ _ (by dsimp only; omega) (by dsimp only; omega) (w_col8 m c q ⟨n.val - 2816, by omega⟩)
  · exact move _ _ (by dsimp only; omega) (by dsimp only; omega) (w_col6 m c q ⟨n.val - 2832, by omega⟩)
  · exact move _ _ (by dsimp only; omega) (by dsimp only; omega)
      (w_col1 m c q ⟨(n.val - 3344) / 64, by omega⟩ ⟨(n.val - 3344) % 64, by omega⟩)
  · exact move _ _ (by dsimp only; omega) (by dsimp only; omega) (w_col2 m c q ⟨n.val - 4880, by omega⟩)
  · exact move _ _ (by dsimp only; omega) (by dsimp only; omega) (w_col9 m c q ⟨n.val - 6416, by omega⟩)
  · exact move _ _ (by dsimp only; omega) (by dsimp only; omega) (w_col3 m c q ⟨n.val - 6424, by omega⟩)

/-- The program's arrays when the kernel call is done. -/
def ended (c : Dev nD) : Valuation τ sig (Elt Ideal) :=
  Pipeline.withArrays spec0 c (V0 m c) fun w => (dats m 0 c).arrAt w cfg0.N

/-- The kernel's first result, once the call is done. -/
theorem end_u (c : Dev nD) (b : Fin 8) (s q : Fin 2048) :
    (show FVec Ideal S16384x2048 .bf16 from ended m c (Proc.devRef .tc main_v133_0)) (ix2 ⟨b.val * 2048 + s.val, by omega⟩ q)
      = nrm (m ((c.tc : Thread nD τ).loc main_arg0)) (m ((c.tc : Thread nD τ).loc main_arg1)) b s q := by
  have e : ended m c (Proc.devRef .tc main_v133_0) = (dats m 0 c).arrAt 3 cfg0.N :=
    Pipeline.withArrays_arr spec0 winFacts0.arr_inj c (V0 m c) (fun w => (dats m 0 c).arrAt w cfg0.N) 3
  rw [e, u_final m c]
  exact rows_eq _ _ b s q _ rfl

/-- The kernel's second result, once the call is done, at the place of column `n`. -/
theorem end_p (c : Dev nD) (b : Fin 8) (s : Fin 2048) (n : Fin 6936) (hr : b.val * 2048 + s.val < 16384) (hn : n.val < 6936) :
    col (ended m c) (b.val * 2048 + s.val) n.val hr hn
      = proj (m ((c.tc : Thread nD τ).loc main_arg0)) (m ((c.tc : Thread nD τ).loc main_arg1))
          (m ((c.tc : Thread nD τ).loc main_arg2)) b s n := by
  have e : ended m c (Proc.devRef .tc main_v133_1) = (dats m 0 c).arrAt 4 cfg0.N :=
    Pipeline.withArrays_arr spec0 winFacts0.arr_inj c (V0 m c) (fun w => (dats m 0 c).arrAt w cfg0.N) 4
  unfold col proj
  rw [e, p_final m c]
  exact Finset.sum_congr rfl fun q _ => congrArg₂ (· * ·) (rows_eq _ _ b s q _ rfl) (w_slot m c q n _ rfl)

/-- What the program leaves in a buffer: its last host operations' result on those arrays. -/
theorem tail_eq (c : Dev nD) (b : Ref sig .tc) :
    Pipeline.afterTail₀ cfgs (dats m) 0 (V0 m) [hostOps1] c b = StableHlo.after hostOps1 (ended m c) (Proc.devRef .tc b) := by
  unfold Pipeline.afterTail₀ ended
  rw [List.flatten_cons, List.flatten_nil, List.append_nil]

/-- The first result is the normalised input. -/
theorem val_u (c : Dev nD) (b : Fin 8) (s q : Fin 2048) :
    (show FVec Ideal S8x2048x2048 .bf16 from Pipeline.afterTail₀ cfgs (dats m) 0 (V0 m) [hostOps1] c main_v153) (ix3 b s q)
      = nrm (m ((c.tc : Thread nD τ).loc main_arg0)) (m ((c.tc : Thread nD τ).loc main_arg1)) b s q := by
  rw [tail_eq m c]
  exact (out_u (ended m c) b s q).trans (end_u m c b s q)

/-- The first branch's projection. -/
theorem val_a (c : Dev nD) (b : Fin 8) (s : Fin 2048) (k : Fin 1792) :
    (show FVec Ideal S8x2048x1792 .f32 from Pipeline.afterTail₀ cfgs (dats m) 0 (V0 m) [hostOps1] c main_v140) (ix3 b s k)
      = proj (m ((c.tc : Thread nD τ).loc main_arg0)) (m ((c.tc : Thread nD τ).loc main_arg1))
          (m ((c.tc : Thread nD τ).loc main_arg2)) b s ⟨0 + k.val, by omega⟩ := by
  rw [tail_eq m c]
  exact (out_a (ended m c) b s k).trans (end_p m c b s ⟨0 + k.val, by omega⟩ _ _)

/-- The second branch's projection. -/
theorem val_b (c : Dev nD) (b : Fin 8) (s : Fin 2048) (k : Fin 1552) :
    (show FVec Ideal S8x2048x1552 .f32 from Pipeline.afterTail₀ cfgs (dats m) 0 (V0 m) [hostOps1] c main_v148) (ix3 b s k)
      = proj (m ((c.tc : Thread nD τ).loc main_arg0)) (m ((c.tc : Thread nD τ).loc main_arg1))
          (m ((c.tc : Thread nD τ).loc main_arg2)) b s ⟨1792 + k.val, by omega⟩ := by
  rw [tail_eq m c]
  exact (out_b (ended m c) b s k).trans (end_p m c b s ⟨1792 + k.val, by omega⟩ _ _)

/-- The third branch's projection. -/
theorem val_c (c : Dev nD) (b : Fin 8) (s : Fin 2048) (k : Fin 1536) :
    (show FVec Ideal S8x2048x1536 .f32 from Pipeline.afterTail₀ cfgs (dats m) 0 (V0 m) [hostOps1] c main_v157) (ix3 b s k)
      = proj (m ((c.tc : Thread nD τ).loc main_arg0)) (m ((c.tc : Thread nD τ).loc main_arg1))
          (m ((c.tc : Thread nD τ).loc main_arg2)) b s ⟨3344 + k.val, by omega⟩ := by
  rw [tail_eq m c]
  exact (out_c (ended m c) b s k).trans (end_p m c b s ⟨3344 + k.val, by omega⟩ _ _)

/-- The fourth branch's projection. -/
theorem val_d (c : Dev nD) (b : Fin 8) (s : Fin 2048) (k : Fin 2056) :
    (show FVec Ideal S8x2048x2056 .f32 from Pipeline.afterTail₀ cfgs (dats m) 0 (V0 m) [hostOps1] c main_v152) (ix3 b s k)
      = proj (m ((c.tc : Thread nD τ).loc main_arg0)) (m ((c.tc : Thread nD τ).loc main_arg1))
          (m ((c.tc : Thread nD τ).loc main_arg2)) b s ⟨4880 + k.val, by omega⟩ := by
  rw [tail_eq m c]
  exact (out_d (ended m c) b s k).trans (end_p m c b s ⟨4880 + k.val, by omega⟩ _ _)

/-- The first branch's projection at the last position. -/
theorem val_shift (c : Dev nD) (b : Fin 8) (s : Fin 1) (k : Fin 1792) :
    (show FVec Ideal S8x1x1792 .f32 from Pipeline.afterTail₀ cfgs (dats m) 0 (V0 m) [hostOps1] c main_v158) (ix3 b s k)
      = proj (m ((c.tc : Thread nD τ).loc main_arg0)) (m ((c.tc : Thread nD τ).loc main_arg1))
          (m ((c.tc : Thread nD τ).loc main_arg2)) b ⟨2047, by omega⟩ ⟨0 + k.val, by omega⟩ := by
  rw [tail_eq m c]
  exact (out_shift (ended m c) b s k).trans (end_p m c b ⟨2047, by omega⟩ ⟨0 + k.val, by omega⟩ _ _)

/-- The keys of the last 512 positions. -/
theorem val_k (c : Dev nD) (b : Fin 8) (s : Fin 512) (h : Fin 8) (d : Fin 64) :
    (show FVec Ideal S8x512x8x64 .f32 from Pipeline.afterTail₀ cfgs (dats m) 0 (V0 m) [hostOps1] c main_v162) (ix4 b s h d)
      = proj (m ((c.tc : Thread nD τ).loc main_arg0)) (m ((c.tc : Thread nD τ).loc main_arg1))
          (m ((c.tc : Thread nD τ).loc main_arg2)) b ⟨1536 + s.val, by omega⟩ ⟨3856 + (h.val * 64 + d.val), by omega⟩ := by
  rw [tail_eq m c]
  exact (out_k (ended m c) b s h d).trans (end_p m c b ⟨1536 + s.val, by omega⟩ ⟨3856 + (h.val * 64 + d.val), by omega⟩ _ _)

/-- The values of the last 512 positions. -/
theorem val_v (c : Dev nD) (b : Fin 8) (s : Fin 512) (h : Fin 8) (d : Fin 64) :
    (show FVec Ideal S8x512x8x64 .f32 from Pipeline.afterTail₀ cfgs (dats m) 0 (V0 m) [hostOps1] c main_v166) (ix4 b s h d)
      = proj (m ((c.tc : Thread nD τ).loc main_arg0)) (m ((c.tc : Thread nD τ).loc main_arg1))
          (m ((c.tc : Thread nD τ).loc main_arg2)) b ⟨1536 + s.val, by omega⟩ ⟨4368 + (h.val * 64 + d.val), by omega⟩ := by
  rw [tail_eq m c]
  exact (out_v (ended m c) b s h d).trans (end_p m c b ⟨1536 + s.val, by omega⟩ ⟨4368 + (h.val * 64 + d.val), by omega⟩ _ _)

/-- The fourth branch's first columns at the last three positions. -/
theorem val_conv (c : Dev nD) (b : Fin 8) (s : Fin 3) (k : Fin 1536) :
    (show FVec Ideal S8x3x1536 .f32 from Pipeline.afterTail₀ cfgs (dats m) 0 (V0 m) [hostOps1] c main_v168) (ix3 b s k)
      = proj (m ((c.tc : Thread nD τ).loc main_arg0)) (m ((c.tc : Thread nD τ).loc main_arg1))
          (m ((c.tc : Thread nD τ).loc main_arg2)) b ⟨2045 + s.val, by omega⟩ ⟨4880 + k.val, by omega⟩ := by
  rw [tail_eq m c]
  exact (out_conv (ended m c) b s k).trans (end_p m c b ⟨2045 + s.val, by omega⟩ ⟨4880 + k.val, by omega⟩ _ _)

end Cert.InprojIdeal.Maths

end
-- ==== Proof.InprojRefValue.lean ====
module

public import proofs.«01_k».proof.Proof.Gen.InprojRefIdeal.Run
public import proofs.«01_k».proof.Proof.InprojResults

@[expose] public section

set_option maxRecDepth 16384

noncomputable section

namespace Cert.InprojRefIdeal.Maths

open Idealize.ShloMosaic Idealize.ShloMosaic.TcCoe Idealize.SL.Sem
open Cert.InprojRefIdeal Cert.InprojRefIdeal.Gen
open Cert.InprojIdeal.Maths (nrm proj)

/-- The reference's normalised input. -/
def normed (x : FVec Ideal S8x2048x2048 .f32) (g : FVec Ideal S2048 .f32) : FVec Ideal S8x2048x2048 .f32 :=
  mulf (mulf x (broadcastInDim S8x2048x2048 ![0, 1, 2] bcast_S8x2048x1_S8x2048x2048_0_1_2 (Host.rsqrt (addf (Host.divf
    (broadcastInDim S8x2048x1 ![0, 1] bcast_S8x2048_S8x2048x1_0_1 (Host.reduceAdd (mulf x x) (constant S_ .f32 0x00000000#32)
      reducesTo_S8x2048x2048_S8x2048_d2 h_S_))
    (broadcastInDim S8x2048x1 ![] bcast_S_S8x2048x1 (constant S_ .f32 0x45000000#32)))
    (broadcastInDim S8x2048x1 ![] bcast_S_S8x2048x1 (constant S_ .f32 0x358637BD#32))))))
    (broadcastInDim S8x2048x2048 ![0, 1, 2] bcast_S1x1x2048_S8x2048x2048_0_1_2
      (broadcastInDim S1x1x2048 ![2] bcast_S2048_S1x1x2048_2 g))

/-- The reference's projection. -/
def projected (x : FVec Ideal S8x2048x2048 .f32) (g : FVec Ideal S2048 .f32) (w : FVec Ideal S2048x6936 .f32) :
    FVec Ideal S8x2048x6936 .f32 :=
  Host.dotGeneral dot_S8x2048x2048_S2048x6936_S8x2048x6936_2_0_01_1_n_n none (normed x g) w

/-- The normalised input, read at an index. -/
theorem normed_at (x : FVec Ideal S8x2048x2048 .f32) (g : FVec Ideal S2048 .f32) (b : Fin 8) (s q : Fin 2048) :
    normed x g (ix3 b s q) = nrm x g b s q := by
  unfold normed nrm Cert.Common.rms
  pointwise

/-- The projection, read at an index. -/
theorem projected_at (x : FVec Ideal S8x2048x2048 .f32) (g : FVec Ideal S2048 .f32) (w : FVec Ideal S2048x6936 .f32)
    (b : Fin 8) (s : Fin 2048) (n : Fin 6936) : projected x g w (ix3 b s n) = proj x g w b s n := by
  unfold projected proj
  pointwise
  exact Finset.sum_congr rfl fun q _ => congrArg (· * w (ix2 q n)) (normed_at x g b s q)

section reads
variable (p : FVec Ideal S8x2048x6936 .f32)

/-- The first branch's projection. -/
def part_a : FVec Ideal S8x2048x1792 .f32 :=
  extractStridedSlice S8x2048x1792 ![0, 0, 0] p slices_S8x2048x6936_S8x2048x1792_0_0_0

/-- It is read from the projection. -/
theorem part_a_at (b : Fin 8) (s : Fin 2048) (k : Fin 1792) : part_a p (ix3 b s k) = p (ix3 b s (⟨0 + k.val, by omega⟩ : Fin 6936)) := by
  unfold part_a
  pointwise

/-- The second branch's projection. -/
def part_b : FVec Ideal S8x2048x1552 .f32 :=
  extractStridedSlice S8x2048x1552 ![0, 0, 1792] p slices_S8x2048x6936_S8x2048x1552_0_0_1792

/-- It is read from the projection. -/
theorem part_b_at (b : Fin 8) (s : Fin 2048) (k : Fin 1552) : part_b p (ix3 b s k) = p (ix3 b s (⟨1792 + k.val, by omega⟩ : Fin 6936)) := by
  unfold part_b
  pointwise

/-- The third branch's projection. -/
def part_c : FVec Ideal S8x2048x1536 .f32 :=
  extractStridedSlice S8x2048x1536 ![0, 0, 3344] p slices_S8x2048x6936_S8x2048x1536_0_0_3344

/-- It is read from the projection. -/
theorem part_c_at (b : Fin 8) (s : Fin 2048) (k : Fin 1536) : part_c p (ix3 b s k) = p (ix3 b s (⟨3344 + k.val, by omega⟩ : Fin 6936)) := by
  unfold part_c
  pointwise

/-- The fourth branch's projection. -/
def part_d : FVec Ideal S8x2048x2056 .f32 :=
  extractStridedSlice S8x2048x2056 ![0, 0, 4880] p slices_S8x2048x6936_S8x2048x2056_0_0_4880

/-- It is read from the projection. -/
theorem part_d_at (b : Fin 8) (s : Fin 2048) (k : Fin 2056) : part_d p (ix3 b s k) = p (ix3 b s (⟨4880 + k.val, by omega⟩ : Fin 6936)) := by
  unfold part_d
  pointwise

/-- The first branch's projection at the last position. -/
def part_shift : FVec Ideal S8x1x1792 .f32 :=
  extractStridedSlice S8x1x1792 ![0, 2047, 0] (extractStridedSlice S8x2048x1792 ![0, 0, 0] p slices_S8x2048x6936_S8x2048x1792_0_0_0)
      slices_S8x2048x1792_S8x1x1792_0_2047_0

/-- It is read from the projection. -/
theorem part_shift_at (b : Fin 8) (s : Fin 1) (k : Fin 1792) : part_shift p (ix3 b s k) = p (ix3 b (⟨2047, by omega⟩ : Fin 2048) (⟨0 + k.val, by omega⟩ : Fin 6936)) := by
  unfold part_shift
  pointwise

/-- The keys of the last 512 positions. -/
def part_k : FVec Ideal S8x512x8x64 .f32 :=
  extractStridedSlice S8x512x8x64 ![0, 1536, 0, 0] (shapeCast S8x2048x8x64 (extractStridedSlice S8x2048x512 ![0, 0, 512]
      (extractStridedSlice S8x2048x1536 ![0, 0, 3344] p slices_S8x2048x6936_S8x2048x1536_0_0_3344)
      slices_S8x2048x1536_S8x2048x512_0_0_512) shapeCasts_S8x2048x512_S8x2048x8x64) slices_S8x2048x8x64_S8x512x8x64_0_1536_0_0

/-- It is read from the projection. -/
theorem part_k_at (b : Fin 8) (s : Fin 512) (h : Fin 8) (d : Fin 64) : part_k p (ix4 b s h d) = p (ix3 b (⟨1536 + s.val, by omega⟩ : Fin 2048) (⟨3856 + (h.val * 64 + d.val), by omega⟩ : Fin 6936)) := by
  unfold part_k
  pointwise
  exact congrArg (fun z : Fin 6936 => p (ix3 b (⟨1536 + s.val, by omega⟩ : Fin 2048) z)) (Fin.ext (by dsimp only; omega))

/-- The values of the last 512 positions. -/
def part_v : FVec Ideal S8x512x8x64 .f32 :=
  extractStridedSlice S8x512x8x64 ![0, 1536, 0, 0] (shapeCast S8x2048x8x64 (extractStridedSlice S8x2048x512 ![0, 0, 1024]
      (extractStridedSlice S8x2048x1536 ![0, 0, 3344] p slices_S8x2048x6936_S8x2048x1536_0_0_3344)
      slices_S8x2048x1536_S8x2048x512_0_0_1024) shapeCasts_S8x2048x512_S8x2048x8x64) slices_S8x2048x8x64_S8x512x8x64_0_1536_0_0

/-- It is read from the projection. -/
theorem part_v_at (b : Fin 8) (s : Fin 512) (h : Fin 8) (d : Fin 64) : part_v p (ix4 b s h d) = p (ix3 b (⟨1536 + s.val, by omega⟩ : Fin 2048) (⟨4368 + (h.val * 64 + d.val), by omega⟩ : Fin 6936)) := by
  unfold part_v
  pointwise
  exact congrArg (fun z : Fin 6936 => p (ix3 b (⟨1536 + s.val, by omega⟩ : Fin 2048) z)) (Fin.ext (by dsimp only; omega))

/-- The fourth branch's first columns at the last three positions. -/
def part_conv : FVec Ideal S8x3x1536 .f32 :=
  extractStridedSlice S8x3x1536 ![0, 2048, 0] (concatenate S8x2051x1536 1
      [⟨S8x3x1536, broadcastInDim S8x3x1536 ![] bcast_S_S8x3x1536 (constant S_ .f32 0x00000000#32)⟩,
       ⟨S8x2048x1536, extractStridedSlice S8x2048x1536 ![0, 0, 0]
        (extractStridedSlice S8x2048x2056 ![0, 0, 4880] p slices_S8x2048x6936_S8x2048x2056_0_0_4880)
        slices_S8x2048x2056_S8x2048x1536_0_0_0⟩] concatenates_S8x3x1536_S8x2048x1536_S8x2051x1536_d1)
      slices_S8x2051x1536_S8x3x1536_0_2048_0

/-- It is read from the projection. -/
theorem part_conv_at (b : Fin 8) (s : Fin 3) (k : Fin 1536) : part_conv p (ix3 b s k) = p (ix3 b (⟨2045 + s.val, by omega⟩ : Fin 2048) (⟨4880 + k.val, by omega⟩ : Fin 6936)) := by
  unfold part_conv
  pointwise
  exact (dif_neg (by omega)).trans
    (congrArg (fun z : Fin 2048 => p (ix3 b z (⟨4880 + k.val, by omega⟩ : Fin 6936))) (Fin.ext (by dsimp only; omega)))

end reads

variable (m' : (ℓ : Loc nD τ sig) → Buf (Elt Ideal) ℓ)
  (m : (ℓ : Loc Cert.InprojIdeal.nD Cert.InprojIdeal.τ Cert.InprojIdeal.sig) → Buf (Elt Ideal) ℓ)

/-- What the kernel's program leaves in a buffer. -/
abbrev left (c : Dev nD) (b : Ref Cert.InprojIdeal.sig .tc) :=
  Pipeline.afterTail₀ Cert.InprojIdeal.cfgs (Cert.InprojIdeal.Gen.dats m) 0 (Cert.InprojIdeal.Gen.V0 m) [Cert.InprojIdeal.Gen.hostOps1] c b

/-- The reference's projection of its own arguments. -/
abbrev pr (c : Dev nD) : FVec Ideal S8x2048x6936 .f32 :=
  projected (m' ((c.tc : Thread nD τ).loc main_arg0)) (m' ((c.tc : Thread nD τ).loc main_arg1)) (m' ((c.tc : Thread nD τ).loc main_arg2))

section ties
variable (c : Dev nD)
    (h0 : m' ((c.tc : Thread nD τ).loc Cert.InprojRefIdeal.main_arg0) = m ((c.tc : Thread nD τ).loc Cert.InprojIdeal.main_arg0))
    (h1 : m' ((c.tc : Thread nD τ).loc Cert.InprojRefIdeal.main_arg1) = m ((c.tc : Thread nD τ).loc Cert.InprojIdeal.main_arg1))
    (h2 : m' ((c.tc : Thread nD τ).loc Cert.InprojRefIdeal.main_arg2) = m ((c.tc : Thread nD τ).loc Cert.InprojIdeal.main_arg2))
include h0 h1

/-- On memories that agree on the arguments both first results are the same. -/
theorem tie_u : (show FVec Ideal S8x2048x2048 .bf16 from truncf .bf16 (normed (m' ((c.tc : Thread nD τ).loc main_arg0)) (m' ((c.tc : Thread nD τ).loc main_arg1))) bitsLt_bf16_f32)
    = left m c Cert.InprojIdeal.main_v153 := by
  funext j
  idx_vars j
  refine Eq.trans ?_ (Cert.InprojIdeal.Maths.val_u m c j0 j1 j2).symm
  rw [← h0, ← h1]
  exact normed_at _ _ j0 j1 j2

include h2

/-- The first branch's projection. Both programs' are the same. -/
theorem tie_a : (show FVec Ideal S8x2048x1792 .f32 from part_a (pr m' c)) = left m c Cert.InprojIdeal.main_v140 := by
  funext j
  idx_vars j
  refine Eq.trans ?_ (Cert.InprojIdeal.Maths.val_a m c j0 j1 j2).symm
  rw [← h0, ← h1, ← h2]
  exact (part_a_at (pr m' c) j0 j1 j2).trans (projected_at _ _ _ _ _ _)

/-- The second branch's projection. Both programs' are the same. -/
theorem tie_b : (show FVec Ideal S8x2048x1552 .f32 from part_b (pr m' c)) = left m c Cert.InprojIdeal.main_v148 := by
  funext j
  idx_vars j
  refine Eq.trans ?_ (Cert.InprojIdeal.Maths.val_b m c j0 j1 j2).symm
  rw [← h0, ← h1, ← h2]
  exact (part_b_at (pr m' c) j0 j1 j2).trans (projected_at _ _ _ _ _ _)

/-- The third branch's projection. Both programs' are the same. -/
theorem tie_c : (show FVec Ideal S8x2048x1536 .f32 from part_c (pr m' c)) = left m c Cert.InprojIdeal.main_v157 := by
  funext j
  idx_vars j
  refine Eq.trans ?_ (Cert.InprojIdeal.Maths.val_c m c j0 j1 j2).symm
  rw [← h0, ← h1, ← h2]
  exact (part_c_at (pr m' c) j0 j1 j2).trans (projected_at _ _ _ _ _ _)

/-- The fourth branch's projection. Both programs' are the same. -/
theorem tie_d : (show FVec Ideal S8x2048x2056 .f32 from part_d (pr m' c)) = left m c Cert.InprojIdeal.main_v152 := by
  funext j
  idx_vars j
  refine Eq.trans ?_ (Cert.InprojIdeal.Maths.val_d m c j0 j1 j2).symm
  rw [← h0, ← h1, ← h2]
  exact (part_d_at (pr m' c) j0 j1 j2).trans (projected_at _ _ _ _ _ _)

/-- The first branch's projection at the last position. Both programs' are the same. -/
theorem tie_shift : (show FVec Ideal S8x1x1792 .f32 from part_shift (pr m' c)) = left m c Cert.InprojIdeal.main_v158 := by
  funext j
  idx_vars j
  refine Eq.trans ?_ (Cert.InprojIdeal.Maths.val_shift m c j0 j1 j2).symm
  rw [← h0, ← h1, ← h2]
  exact (part_shift_at (pr m' c) j0 j1 j2).trans (projected_at _ _ _ _ _ _)

/-- The keys of the last 512 positions. Both programs' are the same. -/
theorem tie_k : (show FVec Ideal S8x512x8x64 .f32 from part_k (pr m' c)) = left m c Cert.InprojIdeal.main_v162 := by
  funext j
  idx_vars j
  refine Eq.trans ?_ (Cert.InprojIdeal.Maths.val_k m c j0 j1 j2 j3).symm
  rw [← h0, ← h1, ← h2]
  exact (part_k_at (pr m' c) j0 j1 j2 j3).trans (projected_at _ _ _ _ _ _)

/-- The values of the last 512 positions. Both programs' are the same. -/
theorem tie_v : (show FVec Ideal S8x512x8x64 .f32 from part_v (pr m' c)) = left m c Cert.InprojIdeal.main_v166 := by
  funext j
  idx_vars j
  refine Eq.trans ?_ (Cert.InprojIdeal.Maths.val_v m c j0 j1 j2 j3).symm
  rw [← h0, ← h1, ← h2]
  exact (part_v_at (pr m' c) j0 j1 j2 j3).trans (projected_at _ _ _ _ _ _)

/-- The fourth branch's first columns at the last three positions. Both programs' are the same. -/
theorem tie_conv : (show FVec Ideal S8x3x1536 .f32 from part_conv (pr m' c)) = left m c Cert.InprojIdeal.main_v168 := by
  funext j
  idx_vars j
  refine Eq.trans ?_ (Cert.InprojIdeal.Maths.val_conv m c j0 j1 j2).symm
  rw [← h0, ← h1, ← h2]
  exact (part_conv_at (pr m' c) j0 j1 j2).trans (projected_at _ _ _ _ _ _)

end ties

end Cert.InprojRefIdeal.Maths

end
-- ==== Proof.lean ====
module

public import proofs.«01_k».proof.Defs
public import proofs.«01_k».proof.Proof.Gen.Band.Frame
public import proofs.«01_k».proof.Proof.Gen.BandIdeal.Value
public import proofs.«01_k».proof.Proof.Gen.BandRefIdeal.Run
public import proofs.«01_k».proof.Proof.BandRefValue
public import proofs.«01_k».proof.Proof.Gen.Ffn.Frame
public import proofs.«01_k».proof.Proof.Gen.FfnIdeal.Value
public import proofs.«01_k».proof.Proof.Gen.FfnRefIdeal.Run
public import proofs.«01_k».proof.Proof.FfnRefValue
public import proofs.«01_k».proof.Proof.Gen.Merge.Frame
public import proofs.«01_k».proof.Proof.Gen.MergeIdeal.Value
public import proofs.«01_k».proof.Proof.Gen.MergeRefIdeal.Run
public import proofs.«01_k».proof.Proof.MergeRefValue
public import proofs.«01_k».proof.Proof.Gen.Inproj.Skeleton
public import proofs.«01_k».proof.Proof.Gen.InprojIdeal.Launch
public import proofs.«01_k».proof.Proof.Gen.InprojRefIdeal.Run
public import proofs.«01_k».proof.Proof.InprojRefValue
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_BandRefIdeal : quiescent_BandRefIdeal := fun m ρ _ =>
  (θ_run Cert.BandRefIdeal.defs _ _).mono (fun r h => ⟨fun c => (h c).2, sem_eq_zero_of_no_sems (by decide) r.2⟩)
    (Cert.BandRefIdeal.Value.run (F := Ideal) m ρ)

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The kernel's program and its ideal program have the same text: the kernel's body is the same. -/
theorem inproj_body_eq : Cert.Inproj.defs₀ (F := Bits) = Cert.InprojIdeal.defs₀ (F := Bits) := by
  funext p l a
  match l, a with
  | 0, (_, _) => cases p <;> rfl

/-- So the pipelined call is the same. -/
theorem inproj_defs_eq : Cert.Inproj.defs (F := Bits) = Cert.InprojIdeal.defs (F := Bits) :=
  congrArg (Pipeline.defs (Cert.InprojIdeal.pcfgs (F := Bits))) inproj_body_eq

set_option maxHeartbeats 4000000 in
/-- The run that is proved for any float values gives the frame of the kernel's program too. -/
theorem quiescent_Inproj : quiescent_Inproj := by
  intro m ρ _
  rw [inproj_defs_eq]
  exact (θ_run Cert.InprojIdeal.defs _ _).mono (fun _ h => h) (Cert.InprojIdeal.Gen.frame (F := Bits) m ρ)

theorem quiescent_InprojRefIdeal : quiescent_InprojRefIdeal := fun m ρ _ =>
  (θ_run Cert.InprojRefIdeal.defs _ _).mono (fun r h => ⟨fun c => (h c).2.2.2.2.2.2.2.2.2, sem_eq_zero_of_no_sems (by decide) r.2⟩)
    (Cert.InprojRefIdeal.Value.run (F := Ideal) m ρ)

theorem algebraic_BandIdeal_BandRefIdeal_pre_finite_scores : algebraic_BandIdeal_BandRefIdeal_pre_finite_scores (hPre_finite_scores := Cert.BandRefIdeal.Maths.preFacts) := by
  intro m ρ m' ρ' hpre hagree
  refine ⟨_, Cert.BandIdeal.Value.run_blocks (F := Ideal) m ρ, ?_⟩
  refine (θ_run Cert.BandRefIdeal.defs _ _).mono (fun _ h c => ⟨?_, (h c).2⟩) (Cert.BandRefIdeal.Value.run (F := Ideal) m' ρ')
  obtain ⟨h0, h1⟩ := hagree c
  have hf := Cert.BandRefIdeal.Maths.finite_of_pre (hp := Cert.BandRefIdeal.Maths.preFacts) _ _ (hpre c)
  exact (h c).1.trans (Cert.BandRefIdeal.Maths.tie m' m c hf h0 h1)

theorem algebraic_FfnIdeal_FfnRefIdeal : algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  obtain ⟨h0, h1, h2, h3, h4⟩ := hagree c
  exact (h c).1.trans (Cert.FfnRefIdeal.Maths.tie m' m c h0 h1 h2 h3 h4)

theorem algebraic_MergeIdeal_MergeRefIdeal : algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩) (Cert.MergeRefIdeal.Value.run (F := Ideal) m' ρ')
  obtain ⟨h0, h1, h2, h3, h4, h5, h6, h7, h8, h9⟩ := hagree c
  exact (h c).1.trans (Cert.MergeRefIdeal.Maths.tie m' m c h0 h1 h2 h3 h4 h5 h6 h7 h8 h9)

theorem algebraic_InprojIdeal_InprojRefIdeal : algebraic_InprojIdeal_InprojRefIdeal := by
  intro m ρ m' ρ' _ hagree
  refine ⟨fun c => Cert.InprojRefIdeal.Maths.left m c Cert.InprojIdeal.main_v153, fun c => Cert.InprojRefIdeal.Maths.left m c Cert.InprojIdeal.main_v140, fun c => Cert.InprojRefIdeal.Maths.left m c Cert.InprojIdeal.main_v148, fun c => Cert.InprojRefIdeal.Maths.left m c Cert.InprojIdeal.main_v157, fun c => Cert.InprojRefIdeal.Maths.left m c Cert.InprojIdeal.main_v152, fun c => Cert.InprojRefIdeal.Maths.left m c Cert.InprojIdeal.main_v158, fun c => Cert.InprojRefIdeal.Maths.left m c Cert.InprojIdeal.main_v162, fun c => Cert.InprojRefIdeal.Maths.left m c Cert.InprojIdeal.main_v166, fun c => Cert.InprojRefIdeal.Maths.left m c Cert.InprojIdeal.main_v168,
    (θ_run Cert.InprojIdeal.defs _ _).mono (fun r h c => ⟨(h.1 c).2 Cert.InprojIdeal.main_v153 (Pipeline.mem_restRefs_of Cert.InprojIdeal.main_v153 (by decide) (by decide)), (h.1 c).2 Cert.InprojIdeal.main_v140 (Pipeline.mem_restRefs_of Cert.InprojIdeal.main_v140 (by decide) (by decide)), (h.1 c).2 Cert.InprojIdeal.main_v148 (Pipeline.mem_restRefs_of Cert.InprojIdeal.main_v148 (by decide) (by decide)), (h.1 c).2 Cert.InprojIdeal.main_v157 (Pipeline.mem_restRefs_of Cert.InprojIdeal.main_v157 (by decide) (by decide)), (h.1 c).2 Cert.InprojIdeal.main_v152 (Pipeline.mem_restRefs_of Cert.InprojIdeal.main_v152 (by decide) (by decide)), (h.1 c).2 Cert.InprojIdeal.main_v158 (Pipeline.mem_restRefs_of Cert.InprojIdeal.main_v158 (by decide) (by decide)), (h.1 c).2 Cert.InprojIdeal.main_v162 (Pipeline.mem_restRefs_of Cert.InprojIdeal.main_v162 (by decide) (by decide)), (h.1 c).2 Cert.InprojIdeal.main_v166 (Pipeline.mem_restRefs_of Cert.InprojIdeal.main_v166 (by decide) (by decide)), (h.1 c).2 Cert.InprojIdeal.main_v168 (Pipeline.mem_restRefs_of Cert.InprojIdeal.main_v168 (by decide) (by decide)), h.2 c⟩)
      (θ_run_and (Cert.InprojIdeal.Gen.run_main (F := Ideal) m ρ) (Cert.InprojIdeal.Gen.unchanged (F := Ideal) m ρ)), ?_⟩
  refine (θ_run Cert.InprojRefIdeal.defs _ _).mono (fun r h c => ?_) (Cert.InprojRefIdeal.Value.run (F := Ideal) m' ρ')
  obtain ⟨h0, h1, h2⟩ := hagree c
  obtain ⟨eu, ea, eb, ec, ed, eshift, ek, ev, econv, harg⟩ := h c
  exact ⟨eu.trans (Cert.InprojRefIdeal.Maths.tie_u m' m c h0 h1), ea.trans (Cert.InprojRefIdeal.Maths.tie_a m' m c h0 h1 h2), eb.trans (Cert.InprojRefIdeal.Maths.tie_b m' m c h0 h1 h2), ec.trans (Cert.InprojRefIdeal.Maths.tie_c m' m c h0 h1 h2), ed.trans (Cert.InprojRefIdeal.Maths.tie_d m' m c h0 h1 h2), eshift.trans (Cert.InprojRefIdeal.Maths.tie_shift m' m c h0 h1 h2), ek.trans (Cert.InprojRefIdeal.Maths.tie_k m' m c h0 h1 h2), ev.trans (Cert.InprojRefIdeal.Maths.tie_v m' m c h0 h1 h2), econv.trans (Cert.InprojRefIdeal.Maths.tie_conv m' m c h0 h1 h2), harg⟩

theorem claim : Cert.Claim := ⟨Cert.Band.Gen.facts, Cert.BandIdeal.Gen.facts, Cert.BandRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Inproj.Gen.facts, Cert.InprojIdeal.Gen.facts, Cert.InprojRefIdeal.Gen.facts, Cert.BandRefIdeal.Maths.preFacts,
  fun m ρ _ => Cert.Band.Gen.frame m ρ, fun m ρ _ => Cert.BandIdeal.Gen.frame m ρ, fun m ρ _ => Cert.BandIdeal.Gen.frame m ρ, quiescent_BandRefIdeal,
  fun m ρ _ => quiescent_BandRefIdeal m ρ trivial, fun m ρ _ => Cert.Ffn.Gen.frame m ρ, fun m ρ _ => Cert.FfnIdeal.Gen.frame m ρ, quiescent_FfnRefIdeal, fun m ρ _ => Cert.Merge.Gen.frame m ρ, fun m ρ _ => Cert.MergeIdeal.Gen.frame m ρ, quiescent_MergeRefIdeal, quiescent_Inproj, fun m ρ _ => Cert.InprojIdeal.Gen.frame m ρ, quiescent_InprojRefIdeal, (trivial : preserves_Band_BandIdeal), algebraic_BandIdeal_BandRefIdeal_pre_finite_scores, (trivial : preserves_Ffn_FfnIdeal), algebraic_FfnIdeal_FfnRefIdeal, (trivial : preserves_Merge_MergeIdeal), algebraic_MergeIdeal_MergeRefIdeal, (trivial : preserves_Inproj_InprojIdeal), algebraic_InprojIdeal_InprojRefIdeal⟩

end Cert.Proof

end
